-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionIdeal_finite_proj [hPre_finite_proj : Cert.Pre_finite_proj.Facts] (m : (ℓ : Loc Cert.ProjectionIdeal.nD Cert.ProjectionIdeal.τ Cert.ProjectionIdeal.sig) → Buf (Elt Ideal) ℓ) : Prop :=
  ∀ c : Dev Cert.ProjectionIdeal.nD,
    (Cert.Pre_finite_proj.fn (F := Ideal) (m ((c.tc : Thread Cert.ProjectionIdeal.nD Cert.ProjectionIdeal.τ).loc Cert.ProjectionIdeal.main_arg0)) (m ((c.tc : Thread Cert.ProjectionIdeal.nD Cert.ProjectionIdeal.τ).loc Cert.ProjectionIdeal.main_arg1)) (m ((c.tc : Thread Cert.ProjectionIdeal.nD Cert.ProjectionIdeal.τ).loc Cert.ProjectionIdeal.main_arg2)) (m ((c.tc : Thread Cert.ProjectionIdeal.nD Cert.ProjectionIdeal.τ).loc Cert.ProjectionIdeal.main_arg3)) (m ((c.tc : Thread Cert.ProjectionIdeal.nD Cert.ProjectionIdeal.τ).loc Cert.ProjectionIdeal.main_arg4))) = (fun _ => 1#1)

def Pre_ProjectionRefIdeal (m : (ℓ : Loc Cert.ProjectionRefIdeal.nD Cert.ProjectionRefIdeal.τ Cert.ProjectionRefIdeal.sig) → Buf (Elt Ideal) ℓ) : Prop :=
  True

def Pre_ProjectionRefIdeal_finite_proj [hPre_finite_proj : Cert.Pre_finite_proj.Facts] (m : (ℓ : Loc Cert.ProjectionRefIdeal.nD Cert.ProjectionRefIdeal.τ Cert.ProjectionRefIdeal.sig) → Buf (Elt Ideal) ℓ) : Prop :=
  ∀ c : Dev Cert.ProjectionRefIdeal.nD,
    (Cert.Pre_finite_proj.fn (F := Ideal) (m ((c.tc : Thread Cert.ProjectionRefIdeal.nD Cert.ProjectionRefIdeal.τ).loc Cert.ProjectionRefIdeal.main_arg0)) (m ((c.tc : Thread Cert.ProjectionRefIdeal.nD Cert.ProjectionRefIdeal.τ).loc Cert.ProjectionRefIdeal.main_arg1)) (m ((c.tc : Thread Cert.ProjectionRefIdeal.nD Cert.ProjectionRefIdeal.τ).loc Cert.ProjectionRefIdeal.main_arg2)) (m ((c.tc : Thread Cert.ProjectionRefIdeal.nD Cert.ProjectionRefIdeal.τ).loc Cert.ProjectionRefIdeal.main_arg3)) (m ((c.tc : Thread Cert.ProjectionRefIdeal.nD Cert.ProjectionRefIdeal.τ).loc Cert.ProjectionRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallIdeal_finite_proj [hPre_finite_proj : Cert.Pre_finite_proj.Facts] (m : (ℓ : Loc Cert.SmallIdeal.nD Cert.SmallIdeal.τ Cert.SmallIdeal.sig) → Buf (Elt Ideal) ℓ) : Prop :=
  ∀ c : Dev Cert.SmallIdeal.nD,
    (Cert.Pre_finite_proj.fn (F := Ideal) (m ((c.tc : Thread Cert.SmallIdeal.nD Cert.SmallIdeal.τ).loc Cert.SmallIdeal.main_arg0)) (m ((c.tc : Thread Cert.SmallIdeal.nD Cert.SmallIdeal.τ).loc Cert.SmallIdeal.main_arg1)) (m ((c.tc : Thread Cert.SmallIdeal.nD Cert.SmallIdeal.τ).loc Cert.SmallIdeal.main_arg2)) (m ((c.tc : Thread Cert.SmallIdeal.nD Cert.SmallIdeal.τ).loc Cert.SmallIdeal.main_arg3)) (m ((c.tc : Thread Cert.SmallIdeal.nD Cert.SmallIdeal.τ).loc Cert.SmallIdeal.main_arg4))) = (fun _ => 1#1)

def Pre_SmallRefIdeal (m : (ℓ : Loc Cert.SmallRefIdeal.nD Cert.SmallRefIdeal.τ Cert.SmallRefIdeal.sig) → Buf (Elt Ideal) ℓ) : Prop :=
  True

def Pre_SmallRefIdeal_finite_proj [hPre_finite_proj : Cert.Pre_finite_proj.Facts] (m : (ℓ : Loc Cert.SmallRefIdeal.nD Cert.SmallRefIdeal.τ Cert.SmallRefIdeal.sig) → Buf (Elt Ideal) ℓ) : Prop :=
  ∀ c : Dev Cert.SmallRefIdeal.nD,
    (Cert.Pre_finite_proj.fn (F := Ideal) (m ((c.tc : Thread Cert.SmallRefIdeal.nD Cert.SmallRefIdeal.τ).loc Cert.SmallRefIdeal.main_arg0)) (m ((c.tc : Thread Cert.SmallRefIdeal.nD Cert.SmallRefIdeal.τ).loc Cert.SmallRefIdeal.main_arg1)) (m ((c.tc : Thread Cert.SmallRefIdeal.nD Cert.SmallRefIdeal.τ).loc Cert.SmallRefIdeal.main_arg2)) (m ((c.tc : Thread Cert.SmallRefIdeal.nD Cert.SmallRefIdeal.τ).loc Cert.SmallRefIdeal.main_arg3)) (m ((c.tc : Thread Cert.SmallRefIdeal.nD Cert.SmallRefIdeal.τ).loc Cert.SmallRefIdeal.main_arg4))) = (fun _ => 1#1)

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerRefIdeal (m : (ℓ : Loc Cert.InnerRefIdeal.nD Cert.InnerRefIdeal.τ Cert.InnerRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjectionIdeal_pre_finite_proj [hProjectionIdeal : Cert.ProjectionIdeal.Facts] [hPre_finite_proj : Cert.Pre_finite_proj.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal_finite_proj m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjectionRefIdeal [hProjectionRefIdeal : Cert.ProjectionRefIdeal.Facts] : Prop :=
  ∀ (m : (ℓ : Loc Cert.ProjectionRefIdeal.nD Cert.ProjectionRefIdeal.τ Cert.ProjectionRefIdeal.sig) → Buf (Elt Ideal) ℓ) (g : Dev Cert.ProjectionRefIdeal.nD → PrngReg), Pre_ProjectionRefIdeal m →
    θ_run (Cert.ProjectionRefIdeal.defs (F := Ideal)) (onTc (τ := Cert.ProjectionRefIdeal.τ) (Cert.ProjectionRefIdeal.main (F := Ideal))) ⟨m, fun _ => 0, g⟩ (fun r => (∀ c : Dev Cert.ProjectionRefIdeal.nD,
      r.2.mem ((c.tc : Thread Cert.ProjectionRefIdeal.nD Cert.ProjectionRefIdeal.τ).loc Cert.ProjectionRefIdeal.main_arg0) = m ((c.tc : Thread Cert.ProjectionRefIdeal.nD Cert.ProjectionRefIdeal.τ).loc Cert.ProjectionRefIdeal.main_arg0)
      ∧ r.2.mem ((c.tc : Thread Cert.ProjectionRefIdeal.nD Cert.ProjectionRefIdeal.τ).loc Cert.ProjectionRefIdeal.main_arg1) = m ((c.tc : Thread Cert.ProjectionRefIdeal.nD Cert.ProjectionRefIdeal.τ).loc Cert.ProjectionRefIdeal.main_arg1)
      ∧ r.2.mem ((c.tc : Thread Cert.ProjectionRefIdeal.nD Cert.ProjectionRefIdeal.τ).loc Cert.ProjectionRefIdeal.main_arg2) = m ((c.tc : Thread Cert.ProjectionRefIdeal.nD Cert.ProjectionRefIdeal.τ).loc Cert.ProjectionRefIdeal.main_arg2)
      ∧ r.2.mem ((c.tc : Thread Cert.ProjectionRefIdeal.nD Cert.ProjectionRefIdeal.τ).loc Cert.ProjectionRefIdeal.main_arg3) = m ((c.tc : Thread Cert.ProjectionRefIdeal.nD Cert.ProjectionRefIdeal.τ).loc Cert.ProjectionRefIdeal.main_arg3)
      ∧ r.2.mem ((c.tc : Thread Cert.ProjectionRefIdeal.nD Cert.ProjectionRefIdeal.τ).loc Cert.ProjectionRefIdeal.main_arg4) = m ((c.tc : Thread Cert.ProjectionRefIdeal.nD Cert.ProjectionRefIdeal.τ).loc Cert.ProjectionRefIdeal.main_arg4))
      ∧ r.2.sem = fun _ => 0)

def quiescent_ProjectionRefIdeal_pre_finite_proj [hProjectionRefIdeal : Cert.ProjectionRefIdeal.Facts] [hPre_finite_proj : Cert.Pre_finite_proj.Facts] : Prop :=
  ∀ (m : (ℓ : Loc Cert.ProjectionRefIdeal.nD Cert.ProjectionRefIdeal.τ Cert.ProjectionRefIdeal.sig) → Buf (Elt Ideal) ℓ) (g : Dev Cert.ProjectionRefIdeal.nD → PrngReg), Pre_ProjectionRefIdeal_finite_proj m →
    θ_run (Cert.ProjectionRefIdeal.defs (F := Ideal)) (onTc (τ := Cert.ProjectionRefIdeal.τ) (Cert.ProjectionRefIdeal.main (F := Ideal))) ⟨m, fun _ => 0, g⟩ (fun r => (∀ c : Dev Cert.ProjectionRefIdeal.nD,
      r.2.mem ((c.tc : Thread Cert.ProjectionRefIdeal.nD Cert.ProjectionRefIdeal.τ).loc Cert.ProjectionRefIdeal.main_arg0) = m ((c.tc : Thread Cert.ProjectionRefIdeal.nD Cert.ProjectionRefIdeal.τ).loc Cert.ProjectionRefIdeal.main_arg0)
      ∧ r.2.mem ((c.tc : Thread Cert.ProjectionRefIdeal.nD Cert.ProjectionRefIdeal.τ).loc Cert.ProjectionRefIdeal.main_arg1) = m ((c.tc : Thread Cert.ProjectionRefIdeal.nD Cert.ProjectionRefIdeal.τ).loc Cert.ProjectionRefIdeal.main_arg1)
      ∧ r.2.mem ((c.tc : Thread Cert.ProjectionRefIdeal.nD Cert.ProjectionRefIdeal.τ).loc Cert.ProjectionRefIdeal.main_arg2) = m ((c.tc : Thread Cert.ProjectionRefIdeal.nD Cert.ProjectionRefIdeal.τ).loc Cert.ProjectionRefIdeal.main_arg2)
      ∧ r.2.mem ((c.tc : Thread Cert.ProjectionRefIdeal.nD Cert.ProjectionRefIdeal.τ).loc Cert.ProjectionRefIdeal.main_arg3) = m ((c.tc : Thread Cert.ProjectionRefIdeal.nD Cert.ProjectionRefIdeal.τ).loc Cert.ProjectionRefIdeal.main_arg3)
      ∧ r.2.mem ((c.tc : Thread Cert.ProjectionRefIdeal.nD Cert.ProjectionRefIdeal.τ).loc Cert.ProjectionRefIdeal.main_arg4) = m ((c.tc : Thread Cert.ProjectionRefIdeal.nD Cert.ProjectionRefIdeal.τ).loc Cert.ProjectionRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ r.2.sem = fun _ => 0)

def quiescent_SmallIdeal_pre_finite_proj [hSmallIdeal : Cert.SmallIdeal.Facts] [hPre_finite_proj : Cert.Pre_finite_proj.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal_finite_proj m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4))
      ∧ r.2.sem = fun _ => 0)

def quiescent_SmallRefIdeal_pre_finite_proj [hSmallRefIdeal : Cert.SmallRefIdeal.Facts] [hPre_finite_proj : Cert.Pre_finite_proj.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal_finite_proj m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6)
      ∧ r.2.mem ((c.tc : Thread Cert.Inner.nD Cert.Inner.τ).loc Cert.Inner.main_arg7) = m ((c.tc : Thread Cert.Inner.nD Cert.Inner.τ).loc Cert.Inner.main_arg7)
      ∧ r.2.mem ((c.tc : Thread Cert.Inner.nD Cert.Inner.τ).loc Cert.Inner.main_arg8) = m ((c.tc : Thread Cert.Inner.nD Cert.Inner.τ).loc Cert.Inner.main_arg8)
      ∧ r.2.mem ((c.tc : Thread Cert.Inner.nD Cert.Inner.τ).loc Cert.Inner.main_arg9) = m ((c.tc : Thread Cert.Inner.nD Cert.Inner.τ).loc Cert.Inner.main_arg9)
      ∧ r.2.mem ((c.tc : Thread Cert.Inner.nD Cert.Inner.τ).loc Cert.Inner.main_arg10) = m ((c.tc : Thread Cert.Inner.nD Cert.Inner.τ).loc Cert.Inner.main_arg10))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
      ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
      ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8)
      ∧ r.2.mem ((c.tc : Thread Cert.InnerIdeal.nD Cert.InnerIdeal.τ).loc Cert.InnerIdeal.main_arg9) = m ((c.tc : Thread Cert.InnerIdeal.nD Cert.InnerIdeal.τ).loc Cert.InnerIdeal.main_arg9)
      ∧ r.2.mem ((c.tc : Thread Cert.InnerIdeal.nD Cert.InnerIdeal.τ).loc Cert.InnerIdeal.main_arg10) = m ((c.tc : Thread Cert.InnerIdeal.nD Cert.InnerIdeal.τ).loc Cert.InnerIdeal.main_arg10))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6)
      ∧ r.2.mem ((c.tc : Thread Cert.InnerRefIdeal.nD Cert.InnerRefIdeal.τ).loc Cert.InnerRefIdeal.main_arg7) = m ((c.tc : Thread Cert.InnerRefIdeal.nD Cert.InnerRefIdeal.τ).loc Cert.InnerRefIdeal.main_arg7)
      ∧ r.2.mem ((c.tc : Thread Cert.InnerRefIdeal.nD Cert.InnerRefIdeal.τ).loc Cert.InnerRefIdeal.main_arg8) = m ((c.tc : Thread Cert.InnerRefIdeal.nD Cert.InnerRefIdeal.τ).loc Cert.InnerRefIdeal.main_arg8)
      ∧ r.2.mem ((c.tc : Thread Cert.InnerRefIdeal.nD Cert.InnerRefIdeal.τ).loc Cert.InnerRefIdeal.main_arg9) = m ((c.tc : Thread Cert.InnerRefIdeal.nD Cert.InnerRefIdeal.τ).loc Cert.InnerRefIdeal.main_arg9)
      ∧ r.2.mem ((c.tc : Thread Cert.InnerRefIdeal.nD Cert.InnerRefIdeal.τ).loc Cert.InnerRefIdeal.main_arg10) = m ((c.tc : Thread Cert.InnerRefIdeal.nD Cert.InnerRefIdeal.τ).loc Cert.InnerRefIdeal.main_arg10))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Projection_ProjectionIdeal : Prop :=
  True

def algebraic_ProjectionIdeal_ProjectionRefIdeal_pre_finite_proj [hProjectionIdeal : Cert.ProjectionIdeal.Facts] [hProjectionRefIdeal : Cert.ProjectionRefIdeal.Facts] [hPre_finite_proj : Cert.Pre_finite_proj.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionRefIdeal.nD Cert.ProjectionRefIdeal.τ Cert.ProjectionRefIdeal.sig) → Buf (Elt Ideal) ℓ) (g' : Dev Cert.ProjectionRefIdeal.nD → PrngReg), Pre_ProjectionIdeal_finite_proj m →
    (∀ c : Dev Cert.ProjectionIdeal.nD,
      m' ((c.tc : Thread Cert.ProjectionRefIdeal.nD Cert.ProjectionRefIdeal.τ).loc Cert.ProjectionRefIdeal.main_arg0) = m ((c.tc : Thread Cert.ProjectionIdeal.nD Cert.ProjectionIdeal.τ).loc Cert.ProjectionIdeal.main_arg0)
      ∧ m' ((c.tc : Thread Cert.ProjectionRefIdeal.nD Cert.ProjectionRefIdeal.τ).loc Cert.ProjectionRefIdeal.main_arg1) = m ((c.tc : Thread Cert.ProjectionIdeal.nD Cert.ProjectionIdeal.τ).loc Cert.ProjectionIdeal.main_arg1)
      ∧ m' ((c.tc : Thread Cert.ProjectionRefIdeal.nD Cert.ProjectionRefIdeal.τ).loc Cert.ProjectionRefIdeal.main_arg2) = m ((c.tc : Thread Cert.ProjectionIdeal.nD Cert.ProjectionIdeal.τ).loc Cert.ProjectionIdeal.main_arg2)
      ∧ m' ((c.tc : Thread Cert.ProjectionRefIdeal.nD Cert.ProjectionRefIdeal.τ).loc Cert.ProjectionRefIdeal.main_arg3) = m ((c.tc : Thread Cert.ProjectionIdeal.nD Cert.ProjectionIdeal.τ).loc Cert.ProjectionIdeal.main_arg3)
      ∧ m' ((c.tc : Thread Cert.ProjectionRefIdeal.nD Cert.ProjectionRefIdeal.τ).loc Cert.ProjectionRefIdeal.main_arg4) = m ((c.tc : Thread Cert.ProjectionIdeal.nD Cert.ProjectionIdeal.τ).loc Cert.ProjectionIdeal.main_arg4)) →
    ∃ (v0 : (c : Dev Cert.ProjectionIdeal.nD) → Buf (Elt Ideal) ((c.tc : Thread Cert.ProjectionIdeal.nD Cert.ProjectionIdeal.τ).loc Cert.ProjectionIdeal.main_v28)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v28) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ θ_run (Cert.ProjectionRefIdeal.defs (F := Ideal)) (onTc (τ := Cert.ProjectionRefIdeal.τ) (Cert.ProjectionRefIdeal.main (F := Ideal))) ⟨m', fun _ => 0, g'⟩ (fun r => ∀ c : Dev Cert.ProjectionRefIdeal.nD,
          r.2.mem ((c.tc : Thread Cert.ProjectionRefIdeal.nD Cert.ProjectionRefIdeal.τ).loc Cert.ProjectionRefIdeal.main_v46) = v0 c
          ∧ r.2.mem ((c.tc : Thread Cert.ProjectionRefIdeal.nD Cert.ProjectionRefIdeal.τ).loc Cert.ProjectionRefIdeal.main_arg0) = m' ((c.tc : Thread Cert.ProjectionRefIdeal.nD Cert.ProjectionRefIdeal.τ).loc Cert.ProjectionRefIdeal.main_arg0)
          ∧ r.2.mem ((c.tc : Thread Cert.ProjectionRefIdeal.nD Cert.ProjectionRefIdeal.τ).loc Cert.ProjectionRefIdeal.main_arg1) = m' ((c.tc : Thread Cert.ProjectionRefIdeal.nD Cert.ProjectionRefIdeal.τ).loc Cert.ProjectionRefIdeal.main_arg1)
          ∧ r.2.mem ((c.tc : Thread Cert.ProjectionRefIdeal.nD Cert.ProjectionRefIdeal.τ).loc Cert.ProjectionRefIdeal.main_arg2) = m' ((c.tc : Thread Cert.ProjectionRefIdeal.nD Cert.ProjectionRefIdeal.τ).loc Cert.ProjectionRefIdeal.main_arg2)
          ∧ r.2.mem ((c.tc : Thread Cert.ProjectionRefIdeal.nD Cert.ProjectionRefIdeal.τ).loc Cert.ProjectionRefIdeal.main_arg3) = m' ((c.tc : Thread Cert.ProjectionRefIdeal.nD Cert.ProjectionRefIdeal.τ).loc Cert.ProjectionRefIdeal.main_arg3)
          ∧ r.2.mem ((c.tc : Thread Cert.ProjectionRefIdeal.nD Cert.ProjectionRefIdeal.τ).loc Cert.ProjectionRefIdeal.main_arg4) = m' ((c.tc : Thread Cert.ProjectionRefIdeal.nD Cert.ProjectionRefIdeal.τ).loc Cert.ProjectionRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Small_SmallIdeal : Prop :=
  True

def algebraic_SmallIdeal_SmallRefIdeal_pre_finite_proj [hSmallIdeal : Cert.SmallIdeal.Facts] [hSmallRefIdeal : Cert.SmallRefIdeal.Facts] [hPre_finite_proj : Cert.Pre_finite_proj.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal_finite_proj m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)) →
    ∃ (v0 : (c : Dev Cert.SmallIdeal.nD) → Buf (Elt Ideal) ((c.tc : Thread Cert.SmallIdeal.nD Cert.SmallIdeal.τ).loc Cert.SmallIdeal.main_v35)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v35) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v50) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4))

def preserves_Inner_InnerIdeal : Prop :=
  True

def algebraic_InnerIdeal_InnerRefIdeal [hInnerIdeal : Cert.InnerIdeal.Facts] [hInnerRefIdeal : Cert.InnerRefIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)
      ∧ m' ((c.tc : Thread Cert.InnerRefIdeal.nD Cert.InnerRefIdeal.τ).loc Cert.InnerRefIdeal.main_arg5) = m ((c.tc : Thread Cert.InnerIdeal.nD Cert.InnerIdeal.τ).loc Cert.InnerIdeal.main_arg5)
      ∧ m' ((c.tc : Thread Cert.InnerRefIdeal.nD Cert.InnerRefIdeal.τ).loc Cert.InnerRefIdeal.main_arg6) = m ((c.tc : Thread Cert.InnerIdeal.nD Cert.InnerIdeal.τ).loc Cert.InnerIdeal.main_arg6)
      ∧ m' ((c.tc : Thread Cert.InnerRefIdeal.nD Cert.InnerRefIdeal.τ).loc Cert.InnerRefIdeal.main_arg7) = m ((c.tc : Thread Cert.InnerIdeal.nD Cert.InnerIdeal.τ).loc Cert.InnerIdeal.main_arg7)
      ∧ m' ((c.tc : Thread Cert.InnerRefIdeal.nD Cert.InnerRefIdeal.τ).loc Cert.InnerRefIdeal.main_arg8) = m ((c.tc : Thread Cert.InnerIdeal.nD Cert.InnerIdeal.τ).loc Cert.InnerIdeal.main_arg8)
      ∧ m' ((c.tc : Thread Cert.InnerRefIdeal.nD Cert.InnerRefIdeal.τ).loc Cert.InnerRefIdeal.main_arg9) = m ((c.tc : Thread Cert.InnerIdeal.nD Cert.InnerIdeal.τ).loc Cert.InnerIdeal.main_arg9)
      ∧ m' ((c.tc : Thread Cert.InnerRefIdeal.nD Cert.InnerRefIdeal.τ).loc Cert.InnerRefIdeal.main_arg10) = m ((c.tc : Thread Cert.InnerIdeal.nD Cert.InnerIdeal.τ).loc Cert.InnerIdeal.main_arg10)) →
    ∃ (v0 : (c : Dev Cert.InnerIdeal.nD) → Buf (Elt Ideal) ((c.tc : Thread Cert.InnerIdeal.nD Cert.InnerIdeal.τ).loc Cert.InnerIdeal.main_v17)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v17) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
          ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
          ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8)
          ∧ r.2.mem ((c.tc : Thread Cert.InnerIdeal.nD Cert.InnerIdeal.τ).loc Cert.InnerIdeal.main_arg9) = m ((c.tc : Thread Cert.InnerIdeal.nD Cert.InnerIdeal.τ).loc Cert.InnerIdeal.main_arg9)
          ∧ r.2.mem ((c.tc : Thread Cert.InnerIdeal.nD Cert.InnerIdeal.τ).loc Cert.InnerIdeal.main_arg10) = m ((c.tc : Thread Cert.InnerIdeal.nD Cert.InnerIdeal.τ).loc Cert.InnerIdeal.main_arg10))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v22) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4)
          ∧ r.2.mem ((c.tc : Thread Cert.InnerRefIdeal.nD Cert.InnerRefIdeal.τ).loc Cert.InnerRefIdeal.main_arg5) = m' ((c.tc : Thread Cert.InnerRefIdeal.nD Cert.InnerRefIdeal.τ).loc Cert.InnerRefIdeal.main_arg5)
          ∧ r.2.mem ((c.tc : Thread Cert.InnerRefIdeal.nD Cert.InnerRefIdeal.τ).loc Cert.InnerRefIdeal.main_arg6) = m' ((c.tc : Thread Cert.InnerRefIdeal.nD Cert.InnerRefIdeal.τ).loc Cert.InnerRefIdeal.main_arg6)
          ∧ r.2.mem ((c.tc : Thread Cert.InnerRefIdeal.nD Cert.InnerRefIdeal.τ).loc Cert.InnerRefIdeal.main_arg7) = m' ((c.tc : Thread Cert.InnerRefIdeal.nD Cert.InnerRefIdeal.τ).loc Cert.InnerRefIdeal.main_arg7)
          ∧ r.2.mem ((c.tc : Thread Cert.InnerRefIdeal.nD Cert.InnerRefIdeal.τ).loc Cert.InnerRefIdeal.main_arg8) = m' ((c.tc : Thread Cert.InnerRefIdeal.nD Cert.InnerRefIdeal.τ).loc Cert.InnerRefIdeal.main_arg8)
          ∧ r.2.mem ((c.tc : Thread Cert.InnerRefIdeal.nD Cert.InnerRefIdeal.τ).loc Cert.InnerRefIdeal.main_arg9) = m' ((c.tc : Thread Cert.InnerRefIdeal.nD Cert.InnerRefIdeal.τ).loc Cert.InnerRefIdeal.main_arg9)
          ∧ r.2.mem ((c.tc : Thread Cert.InnerRefIdeal.nD Cert.InnerRefIdeal.τ).loc Cert.InnerRefIdeal.main_arg10) = m' ((c.tc : Thread Cert.InnerRefIdeal.nD Cert.InnerRefIdeal.τ).loc Cert.InnerRefIdeal.main_arg10))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionRefIdeal : Cert.ProjectionRefIdeal.Facts) (hMerge : Cert.Merge.Facts) (hMergeIdeal : Cert.MergeIdeal.Facts) (hMergeRefIdeal : Cert.MergeRefIdeal.Facts) (hSmall : Cert.Small.Facts) (hSmallIdeal : Cert.SmallIdeal.Facts) (hSmallRefIdeal : Cert.SmallRefIdeal.Facts) (hInner : Cert.Inner.Facts) (hInnerIdeal : Cert.InnerIdeal.Facts) (hInnerRefIdeal : Cert.InnerRefIdeal.Facts) (hPre_finite_qk : Cert.Pre_finite_qk.Facts) (hPre_finite_proj : Cert.Pre_finite_proj.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Projection (hProjection := hProjection)
    ∧ quiescent_ProjectionIdeal (hProjectionIdeal := hProjectionIdeal)
    ∧ quiescent_ProjectionIdeal_pre_finite_proj (hProjectionIdeal := hProjectionIdeal) (hPre_finite_proj := hPre_finite_proj)
    ∧ quiescent_ProjectionRefIdeal (hProjectionRefIdeal := hProjectionRefIdeal)
    ∧ quiescent_ProjectionRefIdeal_pre_finite_proj (hProjectionRefIdeal := hProjectionRefIdeal) (hPre_finite_proj := hPre_finite_proj)
    ∧ quiescent_Merge (hMerge := hMerge)
    ∧ quiescent_MergeIdeal (hMergeIdeal := hMergeIdeal)
    ∧ quiescent_MergeRefIdeal (hMergeRefIdeal := hMergeRefIdeal)
    ∧ quiescent_Small (hSmall := hSmall)
    ∧ quiescent_SmallIdeal (hSmallIdeal := hSmallIdeal)
    ∧ quiescent_SmallIdeal_pre_finite_proj (hSmallIdeal := hSmallIdeal) (hPre_finite_proj := hPre_finite_proj)
    ∧ quiescent_SmallRefIdeal (hSmallRefIdeal := hSmallRefIdeal)
    ∧ quiescent_SmallRefIdeal_pre_finite_proj (hSmallRefIdeal := hSmallRefIdeal) (hPre_finite_proj := hPre_finite_proj)
    ∧ quiescent_Inner (hInner := hInner)
    ∧ quiescent_InnerIdeal (hInnerIdeal := hInnerIdeal)
    ∧ quiescent_InnerRefIdeal (hInnerRefIdeal := hInnerRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Projection_ProjectionIdeal
    ∧ algebraic_ProjectionIdeal_ProjectionRefIdeal_pre_finite_proj (hProjectionIdeal := hProjectionIdeal) (hProjectionRefIdeal := hProjectionRefIdeal) (hPre_finite_proj := hPre_finite_proj)
    ∧ preserves_Merge_MergeIdeal
    ∧ algebraic_MergeIdeal_MergeRefIdeal (hMergeIdeal := hMergeIdeal) (hMergeRefIdeal := hMergeRefIdeal)
    ∧ preserves_Small_SmallIdeal
    ∧ algebraic_SmallIdeal_SmallRefIdeal_pre_finite_proj (hSmallIdeal := hSmallIdeal) (hSmallRefIdeal := hSmallRefIdeal) (hPre_finite_proj := hPre_finite_proj)
    ∧ preserves_Inner_InnerIdeal
    ∧ algebraic_InnerIdeal_InnerRefIdeal (hInnerIdeal := hInnerIdeal) (hInnerRefIdeal := hInnerRefIdeal)
-- ==== Pre_finite_proj.lean ====
abbrev S8x4096x1024 : Shape := ⟨3, ![8, 4096, 1024]⟩
abbrev S1024 : Shape := ⟨1, ![1024]⟩
abbrev S8x1024 : Shape := ⟨2, ![8, 1024]⟩
abbrev S1024x8912 : Shape := ⟨2, ![1024, 8912]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024x8912 : S_.BroadcastsInDim S1024x8912 (![] : Fin 0 → Fin S1024x8912.rank)
  reducesTo_S1024x8912_S_d0_1 : S1024x8912.ReducesTo [0, 1] S_

variable [Facts]

def fn_part1 {F : FTy → Type} [FloatOps F] (main_v13 : IVec S_ 1) (main_v16 : IVec S1024x8912 1) : IVec S_ 1 :=
  let main_c_5 : IVec S_ 1 := constantI S_ 1 1#1
  let main_v17 : IVec S_ 1 := (fun x v => Host.reduce IntOp.andi x v reducesTo_S1024x8912_S_d0_1 h_S_) main_v16 main_c_5
  let main_v18 : IVec S_ 1 := andi main_v13 main_v17
  main_v18

def fn {F : FTy → Type} [FloatOps F] (main_arg0 : FVec F S8x4096x1024 .f32) (main_arg1 : FVec F S1024 .f32) (main_arg2 : FVec F S8x1024 .f32) (main_arg3 : FVec F S8x1024 .f32) (main_arg4 : FVec F S1024x8912 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S1024x8912 .f32 := Host.absf main_arg4
  let main_cst_4 : FVec F S_ .f32 := constant S_ .f32 0x7F800000#32
  let main_v15 : FVec F S1024x8912 .f32 := broadcastInDim S1024x8912 ![] bcast_S_S1024x8912 main_cst_4
  let main_v16 : IVec S1024x8912 1 := cmpf .olt main_v14 main_v15
  fn_part1 (F := F) main_v13 main_v16
-- ==== Pre_finite_qk.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) (main_arg1 : FVec F S8x4096x512 .f32) (main_arg2 : FVec F S8x4096x512 .f32) (main_arg3 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x4096x512 : Shape := ⟨3, ![8, 4096, 512]⟩
abbrev S_ : Shape := ⟨0, ![]⟩
abbrev S8x4096x6656 : Shape := ⟨3, ![8, 4096, 6656]⟩
abbrev S8x4096x8704 : Shape := ⟨3, ![8, 4096, 8704]⟩
abbrev S8x16x256x4x128 : Shape := ⟨5, ![8, 16, 256, 4, 128]⟩
abbrev S8x4x16x128x256 : Shape := ⟨5, ![8, 4, 16, 128, 256]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S1x512x128 : Shape := ⟨3, ![1, 512, 128]⟩
abbrev S1x4096x128 : Shape := ⟨3, ![1, 4096, 128]⟩
abbrev S1x1x16x128x256 : Shape := ⟨5, ![1, 1, 16, 128, 256]⟩
abbrev S2x256x1024 : Shape := ⟨3, ![2, 256, 1024]⟩
abbrev S512x128 : Shape := ⟨2, ![512, 128]⟩
abbrev S1x128 : Shape := ⟨2, ![1, 128]⟩
abbrev S128x512 : Shape := ⟨2, ![128, 512]⟩
abbrev S128x1024 : Shape := ⟨2, ![128, 1024]⟩
abbrev S256x512 : Shape := ⟨2, ![256, 512]⟩
abbrev S64x512 : Shape := ⟨2, ![64, 512]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1x1024 : Shape := ⟨2, ![1, 1024]⟩
abbrev S1x1x1x128x256 : Shape := ⟨5, ![1, 1, 1, 128, 256]⟩
abbrev S64x256 : Shape := ⟨2, ![64, 256]⟩

abbrev nBuf : Space → Nat
  | .hbm => 45
  | .vmem => 12
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S_, .bf16⟩
  | .hbm, ⟨5, _⟩ => ⟨S8x4096x6656, .bf16⟩
  | .hbm, ⟨6, _⟩ => ⟨S8x4096x512, .bf16⟩
  | .hbm, ⟨7, _⟩ => ⟨S8x4096x512, .bf16⟩
  | .hbm, ⟨8, _⟩ => ⟨S8x4096x512, .bf16⟩
  | .hbm, ⟨9, _⟩ => ⟨S8x4096x512, .bf16⟩
  | .hbm, ⟨10, _⟩ => ⟨S8x4096x8704, .bf16⟩
  | .hbm, ⟨11, _⟩ => ⟨S8x4096x512, .bf16⟩
  | .hbm, ⟨12, _⟩ => ⟨S8x16x256x4x128, .bf16⟩
  | .hbm, ⟨13, _⟩ => ⟨S8x4x16x128x256, .bf16⟩
  | .hbm, ⟨14, _⟩ => ⟨S256, .i32⟩
  | .hbm, ⟨15, _⟩ => ⟨S1x256, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i1⟩
  | .hbm, ⟨27, _⟩ => ⟨S_, .i32⟩
  | .hbm, ⟨28, _⟩ => ⟨S1x256, .i32⟩
  | .hbm, ⟨29, _⟩ => ⟨S1x256, .i1⟩
  | .hbm, ⟨30, _⟩ => ⟨S_, .i32⟩
  | .hbm, ⟨31, _⟩ => ⟨S_, .i1⟩
  | .hbm, ⟨32, _⟩ => ⟨S1x256, .i1⟩
  | .hbm, ⟨33, _⟩ => ⟨S1x256, .i1⟩
  | .hbm, ⟨34, _⟩ => ⟨S1x256, .i1⟩
  | .hbm, ⟨35, _⟩ => ⟨S1x256, .i32⟩
  | .hbm, ⟨36, _⟩ => ⟨S1x256, .i32⟩
  | .hbm, ⟨37, _⟩ => ⟨S1x256, .i32⟩
  | .hbm, ⟨38, _⟩ => ⟨S128, .i32⟩
  | .hbm, ⟨39, _⟩ => ⟨S128x1, .i32⟩
  | .hbm, ⟨40, _⟩ => ⟨S128x256, .i32⟩
  | .hbm, ⟨41, _⟩ => ⟨S128x256, .i32⟩
  | .hbm, ⟨42, _⟩ => ⟨S128x256, .i1⟩
  | .hbm, ⟨43, _⟩ => ⟨S128x256, .bf16⟩
  | .hbm, ⟨44, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x1x16x128x256, .bf16⟩
  | .local _ .vmem, ⟨5, _⟩ => ⟨S1x1x16x128x256, .bf16⟩
  | .local _ .vmem, ⟨6, _⟩ => ⟨S1x512x128, .bf16⟩
  | .local _ .vmem, ⟨7, _⟩ => ⟨S1x512x128, .bf16⟩
  | .local _ .vmem, ⟨8, _⟩ => ⟨S128x256, .bf16⟩
  | .local _ .vmem, ⟨9, _⟩ => ⟨S1x512x128, .bf16⟩
  | .local _ .vmem, ⟨10, _⟩ => ⟨S1x512x128, .bf16⟩
  | .local _ .vmem, ⟨11, _⟩ => ⟨S2x256x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let c2_i32 : BitVec 32 := 2#32
  let arg2 : BitVec 32 := BitVec.ofNat 32 (i 2).val
  let v0 : BitVec 32 := Scalar.muli c2_i32 arg2
  let c1_i32 : BitVec 32 := 1#32
  let v26 : BitVec 32 := Scalar.addi v0 c1_i32
  let c0_i32 : BitVec 32 := 0#32
  let v27 : BitVec 32 := Scalar.subi v26 c0_i32
  let c0_i32_6 : BitVec 32 := 0#32
  let v28 : BitVec 32 := Scalar.maxsi v27 c0_i32_6
  let c256_i32 : BitVec 32 := 256#32
  let v29 : BitVec 32 := Scalar.muli v28 c256_i32
  v29
def k0_off1 (i : grid0.Coords) (c0_i32 : BitVec 32) : Fin 3 → Nat :=
  let c0_7 : Index := 0#32
  let c2_i32 : BitVec 32 := 2#32
  let arg2 : BitVec 32 := BitVec.ofNat 32 (i 2).val
  let v0 : BitVec 32 := Scalar.muli c2_i32 arg2
  let c1_i32 : BitVec 32 := 1#32
  let v26 : BitVec 32 := Scalar.addi v0 c1_i32
  let v27 : BitVec 32 := Scalar.subi v26 c0_i32
  let c0_i32_6 : BitVec 32 := 0#32
  let v28 : BitVec 32 := Scalar.maxsi v27 c0_i32_6
  let c256_i32 : BitVec 32 := 256#32
  let v29 : BitVec 32 := Scalar.muli v28 c256_i32
  let v30 : BitVec 32 := v29
  let v31 : Index := Scalar.indexCast v30
  let c0_8 : Index := 0#32
  ![0, v31.toNat, 0]
def k0_mult2 (i : grid0.Coords) : BitVec 32 :=
  let c2_i32 : BitVec 32 := 2#32
  let arg2 : BitVec 32 := BitVec.ofNat 32 (i 2).val
  let v0 : BitVec 32 := Scalar.muli c2_i32 arg2
  let c1_i32_14 : BitVec 32 := 1#32
  let v39 : BitVec 32 := Scalar.addi v0 c1_i32_14
  let c1_i32_15 : BitVec 32 := 1#32
  let v40 : BitVec 32 := Scalar.subi v39 c1_i32_15
  let c0_i32_16 : BitVec 32 := 0#32
  let v41 : BitVec 32 := Scalar.maxsi v40 c0_i32_16
  let c256_i32_17 : BitVec 32 := 256#32
  let v42 : BitVec 32 := Scalar.muli v41 c256_i32_17
  v42
def k0_off2 (i : grid0.Coords) (c0_i32_24 : BitVec 32) : Fin 5 → Nat :=
  let c0_41 : Index := 0#32
  let c0_42 : Index := 0#32
  let c2_i32 : BitVec 32 := 2#32
  let arg2 : BitVec 32 := BitVec.ofNat 32 (i 2).val
  let v0 : BitVec 32 := Scalar.muli c2_i32 arg2
  let c1_i32_23 : BitVec 32 := 1#32
  let v51 : BitVec 32 := Scalar.addi v0 c1_i32_23
  let v52 : BitVec 32 := Scalar.subi v51 c0_i32_24
  let v103 : Index := Scalar.indexCast v52
  let c0_43 : Index := 0#32
  let c0_44 : Index := 0#32
  ![0, 0, v103.toNat, 0, 0]
def k0_mult3 (i : grid0.Coords) : BitVec 32 :=
  let c2_i32 : BitVec 32 := 2#32
  let arg2 : BitVec 32 := BitVec.ofNat 32 (i 2).val
  let v0 : BitVec 32 := Scalar.muli c2_i32 arg2
  let c1_i32_47 : BitVec 32 := 1#32
  let v115 : BitVec 32 := Scalar.addi v0 c1_i32_47
  let c2_i32_48 : BitVec 32 := 2#32
  let v116 : BitVec 32 := Scalar.subi v115 c2_i32_48
  let c0_i32_49 : BitVec 32 := 0#32
  let v117 : BitVec 32 := Scalar.maxsi v116 c0_i32_49
  let c256_i32_50 : BitVec 32 := 256#32
  let v118 : BitVec 32 := Scalar.muli v117 c256_i32_50
  v118
@[reducible] def k0_t1_loop (i : grid0.Coords) : Scf.Loop 32 :=
  let c1_i32_82 : BitVec 32 := 1#32
  let arg2 : BitVec 32 := BitVec.ofNat 32 (i 2).val
  let c1_i32_81 : BitVec 32 := 1#32
  let v191 : BitVec 32 := Scalar.addi arg2 c1_i32_81
  let v192 : BitVec 32 := Scalar.subi v191 c1_i32_82
  let c1_i32_83 : BitVec 32 := 1#32
  let v194 : BitVec 32 := Scalar.divsi v192 c1_i32_83
  let v195 : BitVec 32 := Scalar.muli v194 c1_i32_83
  let v196 : BitVec 32 := Scalar.addi c1_i32_82 v195
  let c1_i32_84 : BitVec 32 := 1#32
  ⟨c1_i32_82, v196, c1_i32_84⟩
def k0_mult4 (i : grid0.Coords) (k0_t1 : Fin (k0_t1_loop i).trips) : BitVec 32 :=
  let c2_i32 : BitVec 32 := 2#32
  let arg2 : BitVec 32 := BitVec.ofNat 32 (i 2).val
  let v0 : BitVec 32 := Scalar.muli c2_i32 arg2
  let c1_i32_94 : BitVec 32 := 1#32
  let v213 : BitVec 32 := Scalar.addi v0 c1_i32_94
  let c2_i32_92 : BitVec 32 := 2#32
  let c1_i32_82 : BitVec 32 := 1#32
  let c1_i32_84 : BitVec 32 := 1#32
  let arg10 : BitVec 32 := Scf.iv c1_i32_82 c1_i32_84 k0_t1
  let v211 : BitVec 32 := Scalar.muli c2_i32_92 arg10
  let c1_i32_93 : BitVec 32 := 1#32
  let v212 : BitVec 32 := Scalar.addi v211 c1_i32_93
  let v214 : BitVec 32 := Scalar.subi v213 v212
  let c0_i32_95 : BitVec 32 := 0#32
  let v215 : BitVec 32 := Scalar.maxsi v214 c0_i32_95
  let c256_i32_96 : BitVec 32 := 256#32
  let v216 : BitVec 32 := Scalar.muli v215 c256_i32_96
  v216
def k0_off3 (i : grid0.Coords) (k0_t1 : Fin (k0_t1_loop i).trips) (c1_i32_93 : BitVec 32) : Fin 3 → Nat :=
  let c0_97 : Index := 0#32
  let c2_i32 : BitVec 32 := 2#32
  let arg2 : BitVec 32 := BitVec.ofNat 32 (i 2).val
  let v0 : BitVec 32 := Scalar.muli c2_i32 arg2
  let c1_i32_94 : BitVec 32 := 1#32
  let v213 : BitVec 32 := Scalar.addi v0 c1_i32_94
  let c2_i32_92 : BitVec 32 := 2#32
  let c1_i32_82 : BitVec 32 := 1#32
  let c1_i32_84 : BitVec 32 := 1#32
  let arg10 : BitVec 32 := Scf.iv c1_i32_82 c1_i32_84 k0_t1
  let v211 : BitVec 32 := Scalar.muli c2_i32_92 arg10
  let v212 : BitVec 32 := Scalar.addi v211 c1_i32_93
  let v214 : BitVec 32 := Scalar.subi v213 v212
  let c0_i32_95 : BitVec 32 := 0#32
  let v215 : BitVec 32 := Scalar.maxsi v214 c0_i32_95
  let c256_i32_96 : BitVec 32 := 256#32
  let v216 : BitVec 32 := Scalar.muli v215 c256_i32_96
  let v217 : BitVec 32 := v216
  let v218 : Index := Scalar.indexCast v217
  let c0_98 : Index := 0#32
  ![0, v218.toNat, 0]
def k0_off4 (i : grid0.Coords) (k0_t1 : Fin (k0_t1_loop i).trips) : Fin 5 → Nat :=
  let c0_118 : Index := 0#32
  let c0_119 : Index := 0#32
  let c2_i32 : BitVec 32 := 2#32
  let arg2 : BitVec 32 := BitVec.ofNat 32 (i 2).val
  let v0 : BitVec 32 := Scalar.muli c2_i32 arg2
  let c1_i32_104 : BitVec 32 := 1#32
  let v226 : BitVec 32 := Scalar.addi v0 c1_i32_104
  let c2_i32_103 : BitVec 32 := 2#32
  let c1_i32_82 : BitVec 32 := 1#32
  let c1_i32_84 : BitVec 32 := 1#32
  let arg10 : BitVec 32 := Scf.iv c1_i32_82 c1_i32_84 k0_t1
  let v225 : BitVec 32 := Scalar.muli c2_i32_103 arg10
  let v227 : BitVec 32 := Scalar.subi v226 v225
  let v268 : Index := Scalar.indexCast v227
  let c0_120 : Index := 0#32
  let c0_121 : Index := 0#32
  ![0, 0, v268.toNat, 0, 0]
def k0_mult5 (i : grid0.Coords) (k0_t1 : Fin (k0_t1_loop i).trips) : BitVec 32 :=
  let c2_i32 : BitVec 32 := 2#32
  let arg2 : BitVec 32 := BitVec.ofNat 32 (i 2).val
  let v0 : BitVec 32 := Scalar.muli c2_i32 arg2
  let c1_i32_126 : BitVec 32 := 1#32
  let v282 : BitVec 32 := Scalar.addi v0 c1_i32_126
  let c2_i32_124 : BitVec 32 := 2#32
  let c1_i32_82 : BitVec 32 := 1#32
  let c1_i32_84 : BitVec 32 := 1#32
  let arg10 : BitVec 32 := Scf.iv c1_i32_82 c1_i32_84 k0_t1
  let v280 : BitVec 32 := Scalar.muli c2_i32_124 arg10
  let c2_i32_125 : BitVec 32 := 2#32
  let v281 : BitVec 32 := Scalar.addi v280 c2_i32_125
  let v283 : BitVec 32 := Scalar.subi v282 v281
  let c0_i32_127 : BitVec 32 := 0#32
  let v284 : BitVec 32 := Scalar.maxsi v283 c0_i32_127
  let c256_i32_128 : BitVec 32 := 256#32
  let v285 : BitVec 32 := Scalar.muli v284 c256_i32_128
  v285
def k0_off5 (i : grid0.Coords) (k0_t1 : Fin (k0_t1_loop i).trips) : Fin 5 → Nat :=
  let c0_151 : Index := 0#32
  let c0_152 : Index := 0#32
  let c2_i32 : BitVec 32 := 2#32
  let arg2 : BitVec 32 := BitVec.ofNat 32 (i 2).val
  let v0 : BitVec 32 := Scalar.muli c2_i32 arg2
  let c1_i32_137 : BitVec 32 := 1#32
  let v296 : BitVec 32 := Scalar.addi v0 c1_i32_137
  let c2_i32_135 : BitVec 32 := 2#32
  let c1_i32_82 : BitVec 32 := 1#32
  let c1_i32_84 : BitVec 32 := 1#32
  let arg10 : BitVec 32 := Scf.iv c1_i32_82 c1_i32_84 k0_t1
  let v294 : BitVec 32 := Scalar.muli c2_i32_135 arg10
  let c1_i32_136 : BitVec 32 := 1#32
  let v295 : BitVec 32 := Scalar.addi v294 c1_i32_136
  let v297 : BitVec 32 := Scalar.subi v296 v295
  let v338 : Index := Scalar.indexCast v297
  let c0_153 : Index := 0#32
  let c0_154 : Index := 0#32
  ![0, 0, v338.toNat, 0, 0]
@[reducible] def k0_t2_loop (i : grid0.Coords) : Scf.Loop 32 :=
  let c1_i32_82 : BitVec 32 := 1#32
  let arg2 : BitVec 32 := BitVec.ofNat 32 (i 2).val
  let c1_i32_81 : BitVec 32 := 1#32
  let v191 : BitVec 32 := Scalar.addi arg2 c1_i32_81
  let v192 : BitVec 32 := Scalar.subi v191 c1_i32_82
  let c1_i32_83 : BitVec 32 := 1#32
  let v194 : BitVec 32 := Scalar.divsi v192 c1_i32_83
  let v195 : BitVec 32 := Scalar.muli v194 c1_i32_83
  let v196 : BitVec 32 := Scalar.addi c1_i32_82 v195
  let v193 : BitVec 32 := Scalar.addi c1_i32_82 v192
  let c1_i32_85 : BitVec 32 := 1#32
  ⟨v196, v193, c1_i32_85⟩
def k0_mult6 (i : grid0.Coords) (k0_t2 : Fin (k0_t2_loop i).trips) : BitVec 32 :=
  let c2_i32 : BitVec 32 := 2#32
  let arg2 : BitVec 32 := BitVec.ofNat 32 (i 2).val
  let v0 : BitVec 32 := Scalar.muli c2_i32 arg2
  let c1_i32_94 : BitVec 32 := 1#32
  let v213 : BitVec 32 := Scalar.addi v0 c1_i32_94
  let c2_i32_92 : BitVec 32 := 2#32
  let c1_i32_82 : BitVec 32 := 1#32
  let c1_i32_81 : BitVec 32 := 1#32
  let v191 : BitVec 32 := Scalar.addi arg2 c1_i32_81
  let v192 : BitVec 32 := Scalar.subi v191 c1_i32_82
  let c1_i32_83 : BitVec 32 := 1#32
  let v194 : BitVec 32 := Scalar.divsi v192 c1_i32_83
  let v195 : BitVec 32 := Scalar.muli v194 c1_i32_83
  let v196 : BitVec 32 := Scalar.addi c1_i32_82 v195
  let c1_i32_85 : BitVec 32 := 1#32
  let arg10 : BitVec 32 := Scf.iv v196 c1_i32_85 k0_t2
  let v211 : BitVec 32 := Scalar.muli c2_i32_92 arg10
  let c1_i32_93 : BitVec 32 := 1#32
  let v212 : BitVec 32 := Scalar.addi v211 c1_i32_93
  let v214 : BitVec 32 := Scalar.subi v213 v212
  let c0_i32_95 : BitVec 32 := 0#32
  let v215 : BitVec 32 := Scalar.maxsi v214 c0_i32_95
  let c256_i32_96 : BitVec 32 := 256#32
  let v216 : BitVec 32 := Scalar.muli v215 c256_i32_96
  v216
def k0_off6 (i : grid0.Coords) (k0_t2 : Fin (k0_t2_loop i).trips) (c1_i32_93 : BitVec 32) : Fin 3 → Nat :=
  let c0_97 : Index := 0#32
  let c2_i32 : BitVec 32 := 2#32
  let arg2 : BitVec 32 := BitVec.ofNat 32 (i 2).val
  let v0 : BitVec 32 := Scalar.muli c2_i32 arg2
  let c1_i32_94 : BitVec 32 := 1#32
  let v213 : BitVec 32 := Scalar.addi v0 c1_i32_94
  let c2_i32_92 : BitVec 32 := 2#32
  let c1_i32_82 : BitVec 32 := 1#32
  let c1_i32_81 : BitVec 32 := 1#32
  let v191 : BitVec 32 := Scalar.addi arg2 c1_i32_81
  let v192 : BitVec 32 := Scalar.subi v191 c1_i32_82
  let c1_i32_83 : BitVec 32 := 1#32
  let v194 : BitVec 32 := Scalar.divsi v192 c1_i32_83
  let v195 : BitVec 32 := Scalar.muli v194 c1_i32_83
  let v196 : BitVec 32 := Scalar.addi c1_i32_82 v195
  let c1_i32_85 : BitVec 32 := 1#32
  let arg10 : BitVec 32 := Scf.iv v196 c1_i32_85 k0_t2
  let v211 : BitVec 32 := Scalar.muli c2_i32_92 arg10
  let v212 : BitVec 32 := Scalar.addi v211 c1_i32_93
  let v214 : BitVec 32 := Scalar.subi v213 v212
  let c0_i32_95 : BitVec 32 := 0#32
  let v215 : BitVec 32 := Scalar.maxsi v214 c0_i32_95
  let c256_i32_96 : BitVec 32 := 256#32
  let v216 : BitVec 32 := Scalar.muli v215 c256_i32_96
  let v217 : BitVec 32 := v216
  let v218 : Index := Scalar.indexCast v217
  let c0_98 : Index := 0#32
  ![0, v218.toNat, 0]
def k0_off7 (i : grid0.Coords) (k0_t2 : Fin (k0_t2_loop i).trips) : Fin 5 → Nat :=
  let c0_118 : Index := 0#32
  let c0_119 : Index := 0#32
  let c2_i32 : BitVec 32 := 2#32
  let arg2 : BitVec 32 := BitVec.ofNat 32 (i 2).val
  let v0 : BitVec 32 := Scalar.muli c2_i32 arg2
  let c1_i32_104 : BitVec 32 := 1#32
  let v226 : BitVec 32 := Scalar.addi v0 c1_i32_104
  let c2_i32_103 : BitVec 32 := 2#32
  let c1_i32_82 : BitVec 32 := 1#32
  let c1_i32_81 : BitVec 32 := 1#32
  let v191 : BitVec 32 := Scalar.addi arg2 c1_i32_81
  let v192 : BitVec 32 := Scalar.subi v191 c1_i32_82
  let c1_i32_83 : BitVec 32 := 1#32
  let v194 : BitVec 32 := Scalar.divsi v192 c1_i32_83
  let v195 : BitVec 32 := Scalar.muli v194 c1_i32_83
  let v196 : BitVec 32 := Scalar.addi c1_i32_82 v195
  let c1_i32_85 : BitVec 32 := 1#32
  let arg10 : BitVec 32 := Scf.iv v196 c1_i32_85 k0_t2
  let v225 : BitVec 32 := Scalar.muli c2_i32_103 arg10
  let v227 : BitVec 32 := Scalar.subi v226 v225
  let v268 : Index := Scalar.indexCast v227
  let c0_120 : Index := 0#32
  let c0_121 : Index := 0#32
  ![0, 0, v268.toNat, 0, 0]
def k0_mult7 (i : grid0.Coords) (k0_t2 : Fin (k0_t2_loop i).trips) : BitVec 32 :=
  let c2_i32 : BitVec 32 := 2#32
  let arg2 : BitVec 32 := BitVec.ofNat 32 (i 2).val
  let v0 : BitVec 32 := Scalar.muli c2_i32 arg2
  let c1_i32_126 : BitVec 32 := 1#32
  let v282 : BitVec 32 := Scalar.addi v0 c1_i32_126
  let c2_i32_124 : BitVec 32 := 2#32
  let c1_i32_82 : BitVec 32 := 1#32
  let c1_i32_81 : BitVec 32 := 1#32
  let v191 : BitVec 32 := Scalar.addi arg2 c1_i32_81
  let v192 : BitVec 32 := Scalar.subi v191 c1_i32_82
  let c1_i32_83 : BitVec 32 := 1#32
  let v194 : BitVec 32 := Scalar.divsi v192 c1_i32_83
  let v195 : BitVec 32 := Scalar.muli v194 c1_i32_83
  let v196 : BitVec 32 := Scalar.addi c1_i32_82 v195
  let c1_i32_85 : BitVec 32 := 1#32
  let arg10 : BitVec 32 := Scf.iv v196 c1_i32_85 k0_t2
  let v280 : BitVec 32 := Scalar.muli c2_i32_124 arg10
  let c2_i32_125 : BitVec 32 := 2#32
  let v281 : BitVec 32 := Scalar.addi v280 c2_i32_125
  let v283 : BitVec 32 := Scalar.subi v282 v281
  let c0_i32_127 : BitVec 32 := 0#32
  let v284 : BitVec 32 := Scalar.maxsi v283 c0_i32_127
  let c256_i32_128 : BitVec 32 := 256#32
  let v285 : BitVec 32 := Scalar.muli v284 c256_i32_128
  v285
def k0_off8 (i : grid0.Coords) (k0_t2 : Fin (k0_t2_loop i).trips) : Fin 5 → Nat :=
  let c0_151 : Index := 0#32
  let c0_152 : Index := 0#32
  let c2_i32 : BitVec 32 := 2#32
  let arg2 : BitVec 32 := BitVec.ofNat 32 (i 2).val
  let v0 : BitVec 32 := Scalar.muli c2_i32 arg2
  let c1_i32_137 : BitVec 32 := 1#32
  let v296 : BitVec 32 := Scalar.addi v0 c1_i32_137
  let c2_i32_135 : BitVec 32 := 2#32
  let c1_i32_82 : BitVec 32 := 1#32
  let c1_i32_81 : BitVec 32 := 1#32
  let v191 : BitVec 32 := Scalar.addi arg2 c1_i32_81
  let v192 : BitVec 32 := Scalar.subi v191 c1_i32_82
  let c1_i32_83 : BitVec 32 := 1#32
  let v194 : BitVec 32 := Scalar.divsi v192 c1_i32_83
  let v195 : BitVec 32 := Scalar.muli v194 c1_i32_83
  let v196 : BitVec 32 := Scalar.addi c1_i32_82 v195
  let c1_i32_85 : BitVec 32 := 1#32
  let arg10 : BitVec 32 := Scf.iv v196 c1_i32_85 k0_t2
  let v294 : BitVec 32 := Scalar.muli c2_i32_135 arg10
  let c1_i32_136 : BitVec 32 := 1#32
  let v295 : BitVec 32 := Scalar.addi v294 c1_i32_136
  let v297 : BitVec 32 := Scalar.subi v296 v295
  let v338 : Index := Scalar.indexCast v297
  let c0_153 : Index := 0#32
  let c0_154 : Index := 0#32
  ![0, 0, v338.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c52_i32 : BitVec 32 := 52#32
  let v0 : BitVec 32 := Scalar.addi c52_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x4096x512 : Shape := ⟨3, ![8, 4096, 512]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x8x64x4096 : Shape := ⟨4, ![8, 8, 64, 4096]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x8x64, .f32⟩
  | .hbm, ⟨5, _⟩ => ⟨S8x4096x8x64, .f32⟩
  | .hbm, ⟨6, _⟩ => ⟨S8x4096x8x64, .f32⟩
  | .hbm, ⟨7, _⟩ => ⟨S8x8x4096x4096, .f32⟩
  | .hbm, ⟨8, _⟩ => ⟨S_, .f32⟩
  | .hbm, ⟨9, _⟩ => ⟨S8x8x4096x4096, .f32⟩
  | .hbm, ⟨10, _⟩ => ⟨S8x8x4096x4096, .f32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S8x8x4096x4096, .f32⟩
  | .hbm, ⟨19, _⟩ => ⟨S8x8x4096x4096, .f32⟩
  | .hbm, ⟨20, _⟩ => ⟨S_, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .i1⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S_, .f32⟩
  | .hbm, ⟨36, _⟩ => ⟨S_, .f32⟩
  | .hbm, ⟨37, _⟩ => ⟨S8x8x4096x4096, .i1⟩
  | .hbm, ⟨38, _⟩ => ⟨S8x8x4096x4096, .f32⟩
  | .hbm, ⟨39, _⟩ => ⟨S8x8x4096x4096, .f32⟩
  | .hbm, ⟨40, _⟩ => ⟨S_, .f32⟩
  | .hbm, ⟨41, _⟩ => ⟨S_, .f32⟩
  | .hbm, ⟨42, _⟩ => ⟨S8x8x4096x4096, .f32⟩
  | .hbm, ⟨43, _⟩ => ⟨S8x8x4096x4096, .f32⟩
  | .hbm, ⟨44, _⟩ => ⟨S8x8x4096x4096, .f32⟩
  | .hbm, ⟨45, _⟩ => ⟨S_, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .i1⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S_, .f32⟩
  | .hbm, ⟨63, _⟩ => ⟨S_, .f32⟩
  | .hbm, ⟨64, _⟩ => ⟨S8x8x4096x4096, .i1⟩
  | .hbm, ⟨65, _⟩ => ⟨S8x8x4096x4096, .f32⟩
  | .hbm, ⟨66, _⟩ => ⟨S8x8x4096x4096, .f32⟩
  | .hbm, ⟨67, _⟩ => ⟨S8x8x64x4096, .f32⟩
  | .hbm, ⟨68, _⟩ => ⟨S8x4096x8x64, .f32⟩
  | .hbm, ⟨69, _⟩ => ⟨S8x4096x512, .f32⟩
  | .hbm, ⟨70, _⟩ => ⟨S8x4096x512, .f32⟩
  | .hbm, ⟨71, _⟩ => ⟨S8x4096x512, .f32⟩
  | .hbm, ⟨72, _⟩ => ⟨S_, .f32⟩
  | .hbm, ⟨73, _⟩ => ⟨S8x4096x512, .f32⟩
  | .hbm, ⟨74, _⟩ => ⟨S8x4096x512, .f32⟩
  | .hbm, ⟨75, _⟩ => ⟨S_, .f32⟩
  | .hbm, ⟨76, _⟩ => ⟨S8x4096x512, .f32⟩
  | .hbm, ⟨77, _⟩ => ⟨S8x4096x512, .f32⟩
  | .hbm, ⟨78, _⟩ => ⟨S8x4096x512, .f32⟩
  | .hbm, ⟨79, _⟩ => ⟨S8x4096x512, .f32⟩
  | .hbm, ⟨80, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_call5_v0 : Ref sig .tc := ⟨.hbm, 70, rfl⟩
abbrev main_call5_v1 : Ref sig .tc := ⟨.hbm, 71, rfl⟩
abbrev main_call5_cst : Ref sig .tc := ⟨.hbm, 72, rfl⟩
abbrev main_call5_v2 : Ref sig .tc := ⟨.hbm, 73, rfl⟩
abbrev main_call5_v3 : Ref sig .tc := ⟨.hbm, 74, rfl⟩
abbrev main_call5_cst_0 : Ref sig .tc := ⟨.hbm, 75, rfl⟩
abbrev main_call5_v4 : Ref sig .tc := ⟨.hbm, 76, rfl⟩
abbrev main_call5_v5 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩

abbrev nD : Nat := 1
abbrev τ : Topo := Topo.v7x

variable {F : FTy → Type} [FloatOps F]
-- ==== Projection.lean ====
abbrev S8x4096x1024 : Shape := ⟨3, ![8, 4096, 1024]⟩
abbrev S1024 : Shape := ⟨1, ![1024]⟩
abbrev S8x1024 : Shape := ⟨2, ![8, 1024]⟩
abbrev S1024x8912 : Shape := ⟨2, ![1024, 8912]⟩
abbrev S32768x1024 : Shape := ⟨2, ![32768, 1024]⟩
abbrev S1024x512 : Shape := ⟨2, ![1024, 512]⟩
abbrev S1024x8 : Shape := ⟨2, ![1024, 8]⟩
abbrev S1024x128 : Shape := ⟨2, ![1024, 128]⟩
abbrev S1024x64 : Shape := ⟨2, ![1024, 64]⟩
abbrev S1024x3072 : Shape := ⟨2, ![1024, 3072]⟩
abbrev S1024x8x2x32 : Shape := ⟨4, ![1024, 8, 2, 32]⟩
abbrev S1024x8x1x32 : Shape := ⟨4, ![1024, 8, 1, 32]⟩
abbrev S1024x8704 : Shape := ⟨2, ![1024, 8704]⟩
abbrev S1x1024 : Shape := ⟨2, ![1, 1024]⟩
abbrev S8x1x1024 : Shape := ⟨3, ![8, 1, 1024]⟩
abbrev S32768x8704 : Shape := ⟨2, ![32768, 8704]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 34
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x8912, .f32⟩
  | .hbm, ⟨5, _⟩ => ⟨S32768x1024, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x512, .f32⟩
  | .hbm, ⟨11, _⟩ => ⟨S1024x512, .f32⟩
  | .hbm, ⟨12, _⟩ => ⟨S1024x128, .f32⟩
  | .hbm, ⟨13, _⟩ => ⟨S1024x512, .f32⟩
  | .hbm, ⟨14, _⟩ => ⟨S1024x64, .f32⟩
  | .hbm, ⟨15, _⟩ => ⟨S1024x8, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x3072, .f32⟩
  | .hbm, ⟨22, _⟩ => ⟨S1024x8x2x32, .f32⟩
  | .hbm, ⟨23, _⟩ => ⟨S1024x8x1x32, .f32⟩
  | .hbm, ⟨24, _⟩ => ⟨S1024x8x1x32, .f32⟩
  | .hbm, ⟨25, _⟩ => ⟨S1024x8x1x32, .f32⟩
  | .hbm, ⟨26, _⟩ => ⟨S1024x8x2x32, .f32⟩
  | .hbm, ⟨27, _⟩ => ⟨S1024x512, .f32⟩
  | .hbm, ⟨28, _⟩ => ⟨S1024x8704, .f32⟩
  | .hbm, ⟨29, _⟩ => ⟨S1024x8704, .bf16⟩
  | .hbm, ⟨30, _⟩ => ⟨S1x1024, .f32⟩
  | .hbm, ⟨31, _⟩ => ⟨S8x1x1024, .f32⟩
  | .hbm, ⟨32, _⟩ => ⟨S8x1x1024, .f32⟩
  | .hbm, ⟨33, _⟩ => ⟨S32768x8704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjectionRefIdeal.lean ====
abbrev S8x4096x1024 : Shape := ⟨3, ![8, 4096, 1024]⟩
abbrev S1024 : Shape := ⟨1, ![1024]⟩
abbrev S8x1024 : Shape := ⟨2, ![8, 1024]⟩
abbrev S1024x8912 : Shape := ⟨2, ![1024, 8912]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x8912 : Shape := ⟨3, ![8, 4096, 8912]⟩
abbrev S8x4096x512 : Shape := ⟨3, ![8, 4096, 512]⟩
abbrev S8x4096x8 : Shape := ⟨3, ![8, 4096, 8]⟩
abbrev S8x4096x128 : Shape := ⟨3, ![8, 4096, 128]⟩
abbrev S8x4096x64 : Shape := ⟨3, ![8, 4096, 64]⟩
abbrev S8x4096x3072 : Shape := ⟨3, ![8, 4096, 3072]⟩
abbrev S8x4096x8x2x32 : Shape := ⟨5, ![8, 4096, 8, 2, 32]⟩
abbrev S8x4096x8x1x32 : Shape := ⟨5, ![8, 4096, 8, 1, 32]⟩
abbrev S8x4096x8704 : Shape := ⟨3, ![8, 4096, 8704]⟩
abbrev S32768x8704 : Shape := ⟨2, ![32768, 8704]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x8912, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x8912, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x4096x8, .f32⟩
  | .hbm, ⟨35, _⟩ => ⟨S8x4096x512, .f32⟩
  | .hbm, ⟨36, _⟩ => ⟨S8x4096x512, .f32⟩
  | .hbm, ⟨37, _⟩ => ⟨S8x4096x128, .f32⟩
  | .hbm, ⟨38, _⟩ => ⟨S8x4096x512, .f32⟩
  | .hbm, ⟨39, _⟩ => ⟨S8x4096x64, .f32⟩
  | .hbm, ⟨40, _⟩ => ⟨S8x4096x8, .f32⟩
  | .hbm, ⟨41, _⟩ => ⟨S8x4096x512, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S8x4096x3072, .f32⟩
  | .hbm, ⟨47, _⟩ => ⟨S8x4096x8x2x32, .f32⟩
  | .hbm, ⟨48, _⟩ => ⟨S8x4096x8x1x32, .f32⟩
  | .hbm, ⟨49, _⟩ => ⟨S8x4096x8x1x32, .f32⟩
  | .hbm, ⟨50, _⟩ => ⟨S8x4096x8x1x32, .f32⟩
  | .hbm, ⟨51, _⟩ => ⟨S8x4096x8x2x32, .f32⟩
  | .hbm, ⟨52, _⟩ => ⟨S8x4096x512, .f32⟩
  | .hbm, ⟨53, _⟩ => ⟨S8x4096x8704, .f32⟩
  | .hbm, ⟨54, _⟩ => ⟨S32768x8704, .f32⟩
  | .hbm, ⟨55, _⟩ => ⟨S32768x8704, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Merge.lean ====
abbrev S8x4096x1024 : Shape := ⟨3, ![8, 4096, 1024]⟩
abbrev S8x1024 : Shape := ⟨2, ![8, 1024]⟩
abbrev S8x4096x512 : Shape := ⟨3, ![8, 4096, 512]⟩
abbrev S8x4096x3072 : Shape := ⟨3, ![8, 4096, 3072]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32768x5632 : Shape := ⟨2, ![32768, 5632]⟩
abbrev S32768x3072 : Shape := ⟨2, ![32768, 3072]⟩
abbrev S32768x8704 : Shape := ⟨2, ![32768, 8704]⟩
abbrev S32768x1024 : Shape := ⟨2, ![32768, 1024]⟩
abbrev S8x1x1024 : Shape := ⟨3, ![8, 1, 1024]⟩
abbrev S32768x512 : Shape := ⟨2, ![32768, 512]⟩
abbrev S1x1024 : Shape := ⟨2, ![1, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 30
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S_, .bf16⟩
  | .hbm, ⟨12, _⟩ => ⟨S32768x5632, .bf16⟩
  | .hbm, ⟨13, _⟩ => ⟨S8x4096x3072, .bf16⟩
  | .hbm, ⟨14, _⟩ => ⟨S32768x3072, .bf16⟩
  | .hbm, ⟨15, _⟩ => ⟨S32768x8704, .bf16⟩
  | .hbm, ⟨16, _⟩ => ⟨S32768x1024, .f32⟩
  | .hbm, ⟨17, _⟩ => ⟨S8x1x1024, .f32⟩
  | .hbm, ⟨18, _⟩ => ⟨S8x4096x512, .bf16⟩
  | .hbm, ⟨19, _⟩ => ⟨S32768x512, .bf16⟩
  | .hbm, ⟨20, _⟩ => ⟨S8x4096x512, .bf16⟩
  | .hbm, ⟨21, _⟩ => ⟨S32768x512, .bf16⟩
  | .hbm, ⟨22, _⟩ => ⟨S8x4096x512, .bf16⟩
  | .hbm, ⟨23, _⟩ => ⟨S32768x512, .bf16⟩
  | .hbm, ⟨24, _⟩ => ⟨S512x1024, .bf16⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S8x4096x1024 : Shape := ⟨3, ![8, 4096, 1024]⟩
abbrev S8x1024 : Shape := ⟨2, ![8, 1024]⟩
abbrev S8x4096x512 : Shape := ⟨3, ![8, 4096, 512]⟩
abbrev S8x4096x3072 : Shape := ⟨3, ![8, 4096, 3072]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S8x4096x3072, .f32⟩
  | .hbm, ⟨12, _⟩ => ⟨S8x4096x3072, .f32⟩
  | .hbm, ⟨13, _⟩ => ⟨S_, .f32⟩
  | .hbm, ⟨14, _⟩ => ⟨S8x4096x3072, .f32⟩
  | .hbm, ⟨15, _⟩ => ⟨S8x4096x3072, .f32⟩
  | .hbm, ⟨16, _⟩ => ⟨S_, .f32⟩
  | .hbm, ⟨17, _⟩ => ⟨S8x4096x3072, .f32⟩
  | .hbm, ⟨18, _⟩ => ⟨S8x4096x3072, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Small.lean ====
abbrev S8x4096x1024 : Shape := ⟨3, ![8, 4096, 1024]⟩
abbrev S1024 : Shape := ⟨1, ![1024]⟩
abbrev S8x1024 : Shape := ⟨2, ![8, 1024]⟩
abbrev S1024x8912 : Shape := ⟨2, ![1024, 8912]⟩
abbrev S32768x1024 : Shape := ⟨2, ![32768, 1024]⟩
abbrev S1024x512 : Shape := ⟨2, ![1024, 512]⟩
abbrev S1024x8 : Shape := ⟨2, ![1024, 8]⟩
abbrev S1024x128 : Shape := ⟨2, ![1024, 128]⟩
abbrev S1024x64 : Shape := ⟨2, ![1024, 64]⟩
abbrev S1024x3072 : Shape := ⟨2, ![1024, 3072]⟩
abbrev S_ : Shape := ⟨0, ![]⟩
abbrev S1024x112 : Shape := ⟨2, ![1024, 112]⟩
abbrev S1024x1x2x32 : Shape := ⟨4, ![1024, 1, 2, 32]⟩
abbrev S1024x1x1x32 : Shape := ⟨4, ![1024, 1, 1, 32]⟩
abbrev S1024x8x2x32 : Shape := ⟨4, ![1024, 8, 2, 32]⟩
abbrev S1024x8x1x32 : Shape := ⟨4, ![1024, 8, 1, 32]⟩
abbrev S1024x1536 : Shape := ⟨2, ![1024, 1536]⟩
abbrev S1x1024 : Shape := ⟨2, ![1, 1024]⟩
abbrev S8x1x1024 : Shape := ⟨3, ![8, 1, 1024]⟩
abbrev S32768x1536 : Shape := ⟨2, ![32768, 1536]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 42
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x8912, .f32⟩
  | .hbm, ⟨5, _⟩ => ⟨S32768x1024, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x512, .f32⟩
  | .hbm, ⟨11, _⟩ => ⟨S1024x512, .f32⟩
  | .hbm, ⟨12, _⟩ => ⟨S1024x128, .f32⟩
  | .hbm, ⟨13, _⟩ => ⟨S1024x512, .f32⟩
  | .hbm, ⟨14, _⟩ => ⟨S1024x64, .f32⟩
  | .hbm, ⟨15, _⟩ => ⟨S1024x8, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x3072, .f32⟩
  | .hbm, ⟨22, _⟩ => ⟨S_, .f32⟩
  | .hbm, ⟨23, _⟩ => ⟨S1024x112, .f32⟩
  | .hbm, ⟨24, _⟩ => ⟨S1024x1x2x32, .f32⟩
  | .hbm, ⟨25, _⟩ => ⟨S1024x1x1x32, .f32⟩
  | .hbm, ⟨26, _⟩ => ⟨S1024x1x1x32, .f32⟩
  | .hbm, ⟨27, _⟩ => ⟨S1024x1x1x32, .f32⟩
  | .hbm, ⟨28, _⟩ => ⟨S1024x1x2x32, .f32⟩
  | .hbm, ⟨29, _⟩ => ⟨S1024x64, .f32⟩
  | .hbm, ⟨30, _⟩ => ⟨S1024x8x2x32, .f32⟩
  | .hbm, ⟨31, _⟩ => ⟨S1024x8x1x32, .f32⟩
  | .hbm, ⟨32, _⟩ => ⟨S1024x8x1x32, .f32⟩
  | .hbm, ⟨33, _⟩ => ⟨S1024x8x1x32, .f32⟩
  | .hbm, ⟨34, _⟩ => ⟨S1024x8x2x32, .f32⟩
  | .hbm, ⟨35, _⟩ => ⟨S1024x512, .f32⟩
  | .hbm, ⟨36, _⟩ => ⟨S1024x1536, .f32⟩
  | .hbm, ⟨37, _⟩ => ⟨S1024x1536, .bf16⟩
  | .hbm, ⟨38, _⟩ => ⟨S1x1024, .f32⟩
  | .hbm, ⟨39, _⟩ => ⟨S8x1x1024, .f32⟩
  | .hbm, ⟨40, _⟩ => ⟨S8x1x1024, .f32⟩
  | .hbm, ⟨41, _⟩ => ⟨S32768x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SmallRefIdeal.lean ====
abbrev S8x4096x1024 : Shape := ⟨3, ![8, 4096, 1024]⟩
abbrev S1024 : Shape := ⟨1, ![1024]⟩
abbrev S8x1024 : Shape := ⟨2, ![8, 1024]⟩
abbrev S1024x8912 : Shape := ⟨2, ![1024, 8912]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x8912 : Shape := ⟨3, ![8, 4096, 8912]⟩
abbrev S8x4096x512 : Shape := ⟨3, ![8, 4096, 512]⟩
abbrev S8x4096x8 : Shape := ⟨3, ![8, 4096, 8]⟩
abbrev S8x4096x128 : Shape := ⟨3, ![8, 4096, 128]⟩
abbrev S8x4096x64 : Shape := ⟨3, ![8, 4096, 64]⟩
abbrev S8x4096x3072 : Shape := ⟨3, ![8, 4096, 3072]⟩
abbrev S8x4096x8x2x32 : Shape := ⟨5, ![8, 4096, 8, 2, 32]⟩
abbrev S8x4096x8x1x32 : Shape := ⟨5, ![8, 4096, 8, 1, 32]⟩
abbrev S8x4096x32 : Shape := ⟨3, ![8, 4096, 32]⟩
abbrev S8x4096x112 : Shape := ⟨3, ![8, 4096, 112]⟩
abbrev S8x4096x1536 : Shape := ⟨3, ![8, 4096, 1536]⟩
abbrev S32768x1536 : Shape := ⟨2, ![32768, 1536]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x8912, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x8912, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x4096x8, .f32⟩
  | .hbm, ⟨35, _⟩ => ⟨S8x4096x512, .f32⟩
  | .hbm, ⟨36, _⟩ => ⟨S8x4096x512, .f32⟩
  | .hbm, ⟨37, _⟩ => ⟨S8x4096x128, .f32⟩
  | .hbm, ⟨38, _⟩ => ⟨S8x4096x512, .f32⟩
  | .hbm, ⟨39, _⟩ => ⟨S8x4096x64, .f32⟩
  | .hbm, ⟨40, _⟩ => ⟨S8x4096x8, .f32⟩
  | .hbm, ⟨41, _⟩ => ⟨S8x4096x512, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S8x4096x3072, .f32⟩
  | .hbm, ⟨47, _⟩ => ⟨S8x4096x8x2x32, .f32⟩
  | .hbm, ⟨48, _⟩ => ⟨S8x4096x8x1x32, .f32⟩
  | .hbm, ⟨49, _⟩ => ⟨S8x4096x8x1x32, .f32⟩
  | .hbm, ⟨50, _⟩ => ⟨S8x4096x8x1x32, .f32⟩
  | .hbm, ⟨51, _⟩ => ⟨S8x4096x8x2x32, .f32⟩
  | .hbm, ⟨52, _⟩ => ⟨S8x4096x512, .f32⟩
  | .hbm, ⟨53, _⟩ => ⟨S8x4096x32, .f32⟩
  | .hbm, ⟨54, _⟩ => ⟨S8x4096x32, .f32⟩
  | .hbm, ⟨55, _⟩ => ⟨S8x4096x32, .f32⟩
  | .hbm, ⟨56, _⟩ => ⟨S8x4096x64, .f32⟩
  | .hbm, ⟨57, _⟩ => ⟨S_, .f32⟩
  | .hbm, ⟨58, _⟩ => ⟨S8x4096x112, .f32⟩
  | .hbm, ⟨59, _⟩ => ⟨S8x4096x1536, .f32⟩
  | .hbm, ⟨60, _⟩ => ⟨S32768x1536, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== Inner.lean ====
abbrev S8x4096x1024 : Shape := ⟨3, ![8, 4096, 1024]⟩
abbrev S8x1024 : Shape := ⟨2, ![8, 1024]⟩
abbrev S8x4096x512 : Shape := ⟨3, ![8, 4096, 512]⟩
abbrev S8x4096x3072 : Shape := ⟨3, ![8, 4096, 3072]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32768x5632 : Shape := ⟨2, ![32768, 5632]⟩
abbrev S32768x3072 : Shape := ⟨2, ![32768, 3072]⟩
abbrev S32768x8704 : Shape := ⟨2, ![32768, 8704]⟩
abbrev S32768x1024 : Shape := ⟨2, ![32768, 1024]⟩
abbrev S8x1x1024 : Shape := ⟨3, ![8, 1, 1024]⟩
abbrev S32768x512 : Shape := ⟨2, ![32768, 512]⟩
abbrev S1x1024 : Shape := ⟨2, ![1, 1024]⟩
abbrev S1x1x1024 : Shape := ⟨3, ![1, 1, 1024]⟩
abbrev S512x512 : Shape := ⟨2, ![512, 512]⟩

abbrev nBuf : Space → Nat
  | .hbm => 30
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S_, .bf16⟩
  | .hbm, ⟨12, _⟩ => ⟨S32768x5632, .bf16⟩
  | .hbm, ⟨13, _⟩ => ⟨S8x4096x3072, .bf16⟩
  | .hbm, ⟨14, _⟩ => ⟨S32768x3072, .bf16⟩
  | .hbm, ⟨15, _⟩ => ⟨S32768x8704, .bf16⟩
  | .hbm, ⟨16, _⟩ => ⟨S32768x1024, .f32⟩
  | .hbm, ⟨17, _⟩ => ⟨S8x1x1024, .f32⟩
  | .hbm, ⟨18, _⟩ => ⟨S8x4096x512, .bf16⟩
  | .hbm, ⟨19, _⟩ => ⟨S32768x512, .bf16⟩
  | .hbm, ⟨20, _⟩ => ⟨S8x4096x512, .bf16⟩
  | .hbm, ⟨21, _⟩ => ⟨S32768x512, .bf16⟩
  | .hbm, ⟨22, _⟩ => ⟨S8x4096x512, .bf16⟩
  | .hbm, ⟨23, _⟩ => ⟨S32768x512, .bf16⟩
  | .hbm, ⟨24, _⟩ => ⟨S512x1024, .bf16⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InnerRefIdeal.lean ====
abbrev S8x4096x1024 : Shape := ⟨3, ![8, 4096, 1024]⟩
abbrev S8x1024 : Shape := ⟨2, ![8, 1024]⟩
abbrev S8x4096x512 : Shape := ⟨3, ![8, 4096, 512]⟩
abbrev S8x4096x3072 : Shape := ⟨3, ![8, 4096, 3072]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x1x1024 : Shape := ⟨3, ![8, 1, 1024]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S8x4096x3072, .f32⟩
  | .hbm, ⟨12, _⟩ => ⟨S8x4096x3072, .f32⟩
  | .hbm, ⟨13, _⟩ => ⟨S_, .f32⟩
  | .hbm, ⟨14, _⟩ => ⟨S8x4096x3072, .f32⟩
  | .hbm, ⟨15, _⟩ => ⟨S8x4096x3072, .f32⟩
  | .hbm, ⟨16, _⟩ => ⟨S_, .f32⟩
  | .hbm, ⟨17, _⟩ => ⟨S8x4096x3072, .f32⟩
  | .hbm, ⟨18, _⟩ => ⟨S8x4096x3072, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Proof.Vocab.lean ====
module

public import proofs.«01_k».proof.Proof.Gen.KernelIdeal.Frame
public import Idealize.ShloMosaic.Lib.Pipeline.Value
public import Idealize.ShloMosaic.Lib.Pointwise

@[expose] public section

/-! The body of stick-breaking attention in a few words: the logits of a key chunk, the two-part suffix sums of the
    softplus, the weights, and one step that takes a chunk into the carried sums. The run of the body is a chain of such
    steps, the chunks taken from the last one down to the first. -/

set_option maxRecDepth 16384

noncomputable section

namespace Cert.KernelIdeal.Sb
open Cert.KernelIdeal Cert.KernelIdeal.Gen Idealize.ShloMosaic Idealize.ShloMosaic.TcCoe Idealize.SL.Sem
open Idealize.ShloMosaic.Pointwise
open Idealize.ShloMosaic.Pipeline (Dat)

variable {F : FTy → Type} [FloatOps F] [Named F]

/-- What the chunks later in the sequence have left: the sum of their softplus, and the two heads' outputs so far. -/
abbrev Carry (F : FTy → Type) : Type := FVec F S1x1024 .f32 × FVec F S64x512 .f32 × FVec F S64x512 .f32

/-- Logits of a key chunk against both heads' queries. -/
def lg (qT : FVec F S128x1024 .bf16) (kb : Vec F S1x256x128 .bf16) : FVec F S256x1024 .f32 :=
  matmul dot_S256x128_S128x1024_S256x1024_1_0_0_1_n_n none (shapeCast S256x128 kb shapeCasts_S1x256x128_S256x128) qT
    (constant S256x1024 .f32 0x00000000#32)

/-- A block of zeros. -/
def zz : FVec F S256x1024 .f32 := broadcast S256x1024 (Scalar.ofBits .f32 0x00000000#32)

/-- Softplus of the logits, in base two. -/
def sp (z : FVec F S256x1024 .f32) : FVec F S256x1024 .f32 :=
  addf (maximumf z zz) (mulf (log (addf (broadcast S256x1024 (Scalar.ofBits .f32 0x3F800000#32)) (exp2 (subf zz (absf z)))))
    (broadcast S256x1024 (Named.named κ "log2e" 0x3FB8AA3B#32)))

/-- Its part that the short format holds. -/
def hi (s : FVec F S256x1024 .f32) : FVec F S256x1024 .bf16 := truncf .bf16 s bitsLt_bf16_f32
/-- What is left of it. -/
def lo (s : FVec F S256x1024 .f32) : FVec F S256x1024 .bf16 := truncf .bf16 (subf s (extf .f32 (hi s) bitsLt_bf16_f32)) bitsLt_bf16_f32

/-- Suffix sums within the last half of a chunk. -/
def sufHi (s : FVec F S256x1024 .f32) (sfx : Vec F S128x256 .bf16) : FVec F S128x1024 .f32 :=
  matmul dot_S128x256_S256x1024_S128x1024_1_0_0_1_n_n none (shapeCast S128x256 sfx shapeCasts_S128x256_S128x256)
    (concatenate S256x1024 0 [⟨S128x1024, extractStridedSlice S128x1024 ![128, 0] (hi s) slices_S256x1024_o128_0_S128x1024⟩,
      ⟨S128x1024, extractStridedSlice S128x1024 ![128, 0] (lo s) slices_S256x1024_o128_0_S128x1024⟩] concatenates_S128x1024_S128x1024_S256x1024_d0)
    (constant S128x1024 .f32 0x00000000#32)

/-- Suffix sums from the first half of a chunk to its end. -/
def sufLo (s : FVec F S256x1024 .f32) (sfx : Vec F S128x256 .bf16) : FVec F S128x1024 .f32 :=
  addf (matmul dot_S128x256_S256x1024_S128x1024_1_0_0_1_n_n none (shapeCast S128x256 sfx shapeCasts_S128x256_S128x256)
    (concatenate S256x1024 0 [⟨S128x1024, extractStridedSlice S128x1024 ![0, 0] (hi s) slices_S256x1024_o0_0_S128x1024⟩,
      ⟨S128x1024, extractStridedSlice S128x1024 ![0, 0] (lo s) slices_S256x1024_o0_0_S128x1024⟩] concatenates_S128x1024_S128x1024_S256x1024_d0)
    (constant S128x1024 .f32 0x00000000#32))
    (broadcastTo S128x1024 (extractStridedSlice S1x1024 ![0, 0] (sufHi s sfx) slices_S128x1024_o0_0_S1x1024) broadcasts_S1x1024_S128x1024)

/-- The exponent of the weights: a key's logit less the softplus of it and of all the keys after it. -/
def ex (later : FVec F S1x1024 .f32) (z s : FVec F S256x1024 .f32) (sfx : Vec F S128x256 .bf16) : FVec F S256x1024 .f32 :=
  exp2 (subf (subf z (concatenate S256x1024 0 [⟨S128x1024, sufLo s sfx⟩, ⟨S128x1024, sufHi s sfx⟩] concatenates_S128x1024_S128x1024_S256x1024_d0))
    (broadcastTo S256x1024 later broadcasts_S1x1024_S256x1024))

/-- One head's output after a chunk. -/
def acc0 (w : FVec F S256x1024 .bf16) (vb : Vec F S1x1x1x128x256 .bf16) (a : FVec F S64x512 .f32) : FVec F S64x512 .f32 :=
  addf a (matmul dot_S64x256_S256x512_S64x512_1_0_0_1_n_n none
    (extractStridedSlice S64x256 ![0, 0] (shapeCast S128x256 vb shapeCasts_S1x1x1x128x256_S128x256) slices_S128x256_o0_0_S64x256)
    (extractStridedSlice S256x512 ![0, 0] w slices_S256x1024_o0_0_S256x512) (constant S64x512 .f32 0x00000000#32))
/-- The other head's. -/
def acc1 (w : FVec F S256x1024 .bf16) (vb : Vec F S1x1x1x128x256 .bf16) (a : FVec F S64x512 .f32) : FVec F S64x512 .f32 :=
  addf a (matmul dot_S64x256_S256x512_S64x512_1_0_0_1_n_n none
    (extractStridedSlice S64x256 ![64, 0] (shapeCast S128x256 vb shapeCasts_S1x1x1x128x256_S128x256) slices_S128x256_o64_0_S64x256)
    (extractStridedSlice S256x512 ![0, 512] w slices_S256x1024_o0_512_S256x512) (constant S64x512 .f32 0x00000000#32))

/-- One chunk taken in. `fin` is what a mask leaves of the softplus and of the weights. -/
def consume (fin : FVec F S256x1024 .f32 → FVec F S256x1024 .f32) (z : FVec F S256x1024 .f32) (sfx : Vec F S128x256 .bf16)
    (vb : Vec F S1x1x1x128x256 .bf16) (c : Carry F) : Carry F :=
  (addf c.1 (extractStridedSlice S1x1024 ![0, 0] (sufLo (fin (sp z)) sfx) slices_S128x1024_o0_0_S1x1024),
   acc0 (truncf .bf16 (fin (ex c.1 z (fin (sp z)) sfx)) bitsLt_bf16_f32) vb c.2.1,
   acc1 (truncf .bf16 (fin (ex c.1 z (fin (sp z)) sfx)) bitsLt_bf16_f32) vb c.2.2)

/-- A chunk of 256 keys. -/
def kblk (x : Vec F S1x4096x128 .bf16) (c : ℕ) : Vec F S1x256x128 .bf16 :=
  fun j => x (ix3 0 ⟨min (256 * c + (j 1).val) 4095, by omega⟩ (j 2))
/-- A chunk of 256 values, transposed. -/
def vblk (x : Vec F S1x1x16x128x256 .bf16) (c : ℕ) : Vec F S1x1x1x128x256 .bf16 :=
  fun j => x (ix5 0 0 ⟨min c 15, by omega⟩ (j 3) (j 4))

/-- The slot of the scratch that holds a chunk's logits. -/
abbrev slot0 : Rect S2x256x1024 := Rect.unit ![0, 0, 0] S1x256x1024.size inb_S2x256x1024_S1x256x1024_0_0_0
abbrev slot1 : Rect S2x256x1024 := Rect.unit ![1, 0, 0] S1x256x1024.size inb_S2x256x1024_S1x256x1024_1_0_0

theorem slots_disjoint : Disjoint slot0.set slot1.toLoadRect.set := by
  rw [Finset.disjoint_left]
  intro y h0 h1
  have a0 := (Rect.mem_set_unit.mp h0) 0
  have a1 := (Rect.mem_set_unit.mp h1) 0
  have e0 : (![0, 0, 0] : Fin 3 → ℕ) 0 + S1x256x1024.size 0 = 1 := rfl
  have e1 : (![1, 0, 0] : Fin 3 → ℕ) 0 = 1 := rfl
  omega

theorem cast_pay2 (qT : FVec F S128x1024 .bf16) (kb : Vec F S1x256x128 .bf16) :
    shapeCast S256x1024 (k0_pay2 qT kb) shapeCasts_S1x256x1024_S256x1024 = lg qT kb :=
  shapeCast_shapeCast _ _ _

section Trip
variable (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S1x512x128 .bf16) (harg6 : arg6.IsWhole) (arg7 : Memref sig .tc .vmem S128x256 .bf16) (harg7 : arg7.IsWhole) (arg8 : Memref sig .tc .vmem S1x512x128 .bf16) (harg8 : arg8.IsWhole) (arg9 : Memref sig .tc .vmem S2x256x1024 .f32) (harg9 : arg9.IsWhole)
  (arg2 : BitVec 32) (v0 : BitVec 32) (v22 : FVec F S128x1024 .bf16) (v109 : FVec F S64x512 .f32) (v113 : FVec F S64x512 .f32) (v114 : FVec F S1x1024 .f32) (v128 : BitVec 32) (v130 : FVec F S256x1024 .f32) (v148 : IVec S256x1024 1) (v151 : FVec F S256x1024 .bf16) (v154 : FVec F S256x1024 .bf16) (v155 : Vec F S128x256 .bf16)
  (X_arg4 : BufTy.Contents (Elt F) arg4.view.ty) (X_arg5 : BufTy.Contents (Elt F) arg5.view.ty) (X_arg7 : BufTy.Contents (Elt F) arg7.view.ty)

theorem tripR_raw (k : Fin (k0_t1_loop i).trips) (acc : Carry F) (f : BufTy.Contents (Elt F) arg9.view.ty) :
    (trip_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 k).1 acc f
      = consume id (shapeCast S256x1024 (arg9.view.readCov (Val := Elt F)
            [⟨slot0, k0_pay2 v22 (View.readAt (Elt F) arg4.view (Rect.unit (s := S1x4096x128) (k0_off3 i k 2#32) S1x256x128.size (Gen.facts.k0_off3_inb i k 1)).toLoadRect X_arg4)⟩,
             ⟨slot1, k0_pay2 v22 (View.readAt (Elt F) arg4.view (Rect.unit (s := S1x4096x128) (k0_off3 i k 1#32) S1x256x128.size (Gen.facts.k0_off3_inb i k 0)).toLoadRect X_arg4)⟩]
            slot1.toLoadRect) shapeCasts_S1x256x1024_S256x1024)
          (View.readAt (Elt F) arg7.view (Rect.unit ![0, 0] S128x256.size inb_S128x256_S128x256_0_0).toLoadRect X_arg7)
          (View.readAt (Elt F) arg5.view (Rect.unit (s := S1x1x16x128x256) (k0_off5 i k) S1x1x1x128x256.size (Gen.facts.k0_off5_inb i k)).toLoadRect X_arg5)
        (consume id (shapeCast S256x1024 (View.readAt (Elt F) arg9.view slot0.toLoadRect f) shapeCasts_S1x256x1024_S256x1024)
          (View.readAt (Elt F) arg7.view (Rect.unit ![0, 0] S128x256.size inb_S128x256_S128x256_0_0).toLoadRect X_arg7)
          (View.readAt (Elt F) arg5.view (Rect.unit (s := S1x1x16x128x256) (k0_off4 i k) S1x1x1x128x256.size (Gen.facts.k0_off4_inb i k)).toLoadRect X_arg5) acc) := by
  unfold trip_k0_t1
  rfl

theorem tripL_raw (k : Fin (k0_t1_loop i).trips) (acc : Carry F) (f : BufTy.Contents (Elt F) arg9.view.ty) :
    (trip_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 k).2.1 acc f
      = [⟨slot0, k0_pay2 v22 (View.readAt (Elt F) arg4.view (Rect.unit (s := S1x4096x128) (k0_off3 i k 2#32) S1x256x128.size (Gen.facts.k0_off3_inb i k 1)).toLoadRect X_arg4)⟩,
         ⟨slot1, k0_pay2 v22 (View.readAt (Elt F) arg4.view (Rect.unit (s := S1x4096x128) (k0_off3 i k 1#32) S1x256x128.size (Gen.facts.k0_off3_inb i k 0)).toLoadRect X_arg4)⟩] := by
  unfold trip_k0_t1
  rfl
end Trip

end Cert.KernelIdeal.Sb
end
-- ==== Proof.Chain.lean ====
module

public import proofs.«01_k».proof.Proof.Vocab

@[expose] public section

/-! The body's run as a chain of steps, the chunks from the last to the first. -/

set_option maxRecDepth 16384

noncomputable section

namespace Cert.KernelIdeal.Sb
open Cert.KernelIdeal Cert.KernelIdeal.Gen Idealize.ShloMosaic Idealize.ShloMosaic.TcCoe Idealize.SL.Sem
open Idealize.ShloMosaic.Pipeline (Dat)

variable {F : FTy → Type} [FloatOps F] [Named F]

/-- `u` chunks taken in below chunk `n`, from the one just below it downwards. -/
def down (qT : FVec F S128x1024 .bf16) (x1 : Vec F S1x4096x128 .bf16) (x2 : Vec F S1x1x16x128x256 .bf16) (sfx : Vec F S128x256 .bf16)
    (n : ℕ) (c0 : Carry F) : ℕ → Carry F
  | 0 => c0
  | u + 1 => consume id (lg qT (kblk x1 (n - 1 - u))) sfx (vblk x2 (n - 1 - u)) (down qT x1 x2 sfx n c0 u)

theorem readK (arg4 : Memref sig .tc .vmem S1x4096x128 .bf16) (harg4 : arg4.IsWhole) (x1 : Vec F S1x4096x128 .bf16) {off : Fin 3 → ℕ}
    {inb : ∀ a, off a + S1x256x128.size a ≤ S1x4096x128.size a} (n : ℕ) (h : off = ![0, 256 * n, 0]) :
    View.readAt (Elt F) arg4.view (Rect.unit (s := S1x4096x128) off S1x256x128.size inb).toLoadRect (harg4.unread x1) = kblk x1 n := by
  subst h
  rw [View.readAt_eq_ld, harg4.read_unread]
  funext j
  show x1 _ = x1 _
  have hb := inb 1
  have hj : (j 1).val < 256 := (j 1).isLt
  have hb' : 256 * n + 256 ≤ 4096 := hb
  congr 1
  funext a
  match a with
  | ⟨0, _⟩ => exact Fin.ext (by have := (j 0).isLt; show 0 + 1 * (j 0).val = 0; have h1 : (j 0).val < 1 := this; omega)
  | ⟨1, _⟩ => exact Fin.ext (by show 256 * n + 1 * (j 1).val = min (256 * n + (j 1).val) 4095; omega)
  | ⟨2, _⟩ => exact Fin.ext (by show 0 + 1 * (j 2).val = (j 2).val; omega)

theorem readV (arg5 : Memref sig .tc .vmem S1x1x16x128x256 .bf16) (harg5 : arg5.IsWhole) (x2 : Vec F S1x1x16x128x256 .bf16) {off : Fin 5 → ℕ}
    {inb : ∀ a, off a + S1x1x1x128x256.size a ≤ S1x1x16x128x256.size a} (n : ℕ) (h : off = ![0, 0, n, 0, 0]) :
    View.readAt (Elt F) arg5.view (Rect.unit (s := S1x1x16x128x256) off S1x1x1x128x256.size inb).toLoadRect (harg5.unread x2) = vblk x2 n := by
  subst h
  rw [View.readAt_eq_ld, harg5.read_unread]
  funext j
  show x2 _ = x2 _
  have hb' : n + 1 ≤ 16 := inb 2
  congr 1
  funext a
  match a with
  | ⟨0, _⟩ => exact Fin.ext (by have h1 : (j 0).val < 1 := (j 0).isLt; show 0 + 1 * (j 0).val = 0; omega)
  | ⟨1, _⟩ => exact Fin.ext (by have h1 : (j 1).val < 1 := (j 1).isLt; show 0 + 1 * (j 1).val = 0; omega)
  | ⟨2, _⟩ => exact Fin.ext (by have h1 : (j 2).val < 1 := (j 2).isLt; show n + 1 * (j 2).val = min n 15; omega)
  | ⟨3, _⟩ => exact Fin.ext (by show 0 + 1 * (j 3).val = (j 3).val; omega)
  | ⟨4, _⟩ => exact Fin.ext (by show 0 + 1 * (j 4).val = (j 4).val; omega)

theorem readSlot0 (arg9 : Memref sig .tc .vmem S2x256x1024 .f32) (f : BufTy.Contents (Elt F) arg9.view.ty)
    (w : Vec F S1x256x1024 .f32) (L : List (View.Piece (Elt F) S2x256x1024 .f32)) :
    View.readAt (Elt F) arg9.view slot0.toLoadRect (arg9.view.writes (Elt F) f (⟨slot0, w⟩ :: L)) = w :=
  funext fun j => View.read_writes_cons_emb arg9.view f slot0 w L j

theorem covSlot1 (arg9 : Memref sig .tc .vmem S2x256x1024 .f32) (w w' : Vec F S1x256x1024 .f32) (L : List (View.Piece (Elt F) S2x256x1024 .f32)) :
    arg9.view.readCov (Val := Elt F) (⟨slot0, w⟩ :: ⟨slot1, w'⟩ :: L) slot1.toLoadRect = w' := by
  exact (View.readCov_cons_of_disjoint arg9.view ⟨slot0, w⟩ (⟨slot1, w'⟩ :: L) slot1.toLoadRect slots_disjoint).trans
    (View.readCov_cons_toLoadRect arg9.view slot1 w' L)

theorem slots_disjoint' : Disjoint slot1.set slot0.toLoadRect.set := slots_disjoint.symm

theorem covSlot0 (arg9 : Memref sig .tc .vmem S2x256x1024 .f32) (w w' : Vec F S1x256x1024 .f32) (L : List (View.Piece (Elt F) S2x256x1024 .f32)) :
    arg9.view.readCov (Val := Elt F) (⟨slot1, w⟩ :: ⟨slot0, w'⟩ :: L) slot0.toLoadRect = w' := by
  exact (View.readCov_cons_of_disjoint arg9.view ⟨slot1, w⟩ (⟨slot0, w'⟩ :: L) slot0.toLoadRect slots_disjoint').trans
    (View.readCov_cons_toLoadRect arg9.view slot0 w' L)

/-! The counts and places the body computes. -/

theorem trips1 (i : grid0.Coords) : (k0_t1_loop i).trips = (i 2).val :=
  (by decide +kernel : ∀ q : Fin 8, Scf.trips (1#32) (Scalar.addi 1#32 (Scalar.muli (Scalar.divsi (Scalar.subi (Scalar.addi (BitVec.ofNat 32 q.val) 1#32) 1#32) 1#32) 1#32)) (1#32) = q.val) (i 2)

theorem trips2 (i : grid0.Coords) : (k0_t2_loop i).trips = 0 := by
  unfold k0_t2_loop
  exact (by decide +kernel : ∀ q : Fin 8, Scf.trips (Scalar.addi 1#32 (Scalar.muli (Scalar.divsi (Scalar.subi (Scalar.addi (BitVec.ofNat 32 q.val) 1#32) 1#32) 1#32) 1#32)) (Scalar.addi 1#32 (Scalar.subi (Scalar.addi (BitVec.ofNat 32 q.val) 1#32) 1#32)) (1#32) = 0) (i 2)

theorem klt (i : grid0.Coords) (k : Fin (k0_t1_loop i).trips) : k.val < (i 2).val := lt_of_lt_of_eq k.isLt (trips1 i)

theorem off1_eq (i : grid0.Coords) : k0_off1 i 0#32 = ![0, 256 * (2 * (i 2).val + 1), 0] ∧ k0_off1 i 1#32 = ![0, 256 * (2 * (i 2).val), 0]
    ∧ k0_off1 i 2#32 = ![0, 256 * (2 * (i 2).val - 1), 0] :=
  (by decide +kernel : ∀ q : Fin 8,
    (let f := fun r : BitVec 32 => ![0, (Scalar.indexCast (Scalar.muli (Scalar.maxsi (Scalar.subi (Scalar.addi (Scalar.muli 2#32 (BitVec.ofNat 32 q.val)) 1#32) r) 0#32) 256#32) : Index).toNat, 0]
     f 0#32 = ![0, 256 * (2 * q.val + 1), 0] ∧ f 1#32 = ![0, 256 * (2 * q.val), 0] ∧ f 2#32 = ![0, 256 * (2 * q.val - 1), 0])) (i 2)

theorem off2_eq (i : grid0.Coords) : k0_off2 i 0#32 = ![0, 0, 2 * (i 2).val + 1, 0, 0] ∧ k0_off2 i 1#32 = ![0, 0, 2 * (i 2).val, 0, 0] :=
  (by decide +kernel : ∀ q : Fin 8,
    (let f := fun r : BitVec 32 => ![0, 0, (Scalar.indexCast (Scalar.subi (Scalar.addi (Scalar.muli 2#32 (BitVec.ofNat 32 q.val)) 1#32) r) : Index).toNat, 0, 0]
     f 0#32 = ![0, 0, 2 * q.val + 1, 0, 0] ∧ f 1#32 = ![0, 0, 2 * q.val, 0, 0])) (i 2)

theorem off3_eq (i : grid0.Coords) (k : Fin (k0_t1_loop i).trips) : k0_off3 i k 1#32 = ![0, 256 * (2 * (i 2).val - 1 - (2 * k.val + 1)), 0]
    ∧ k0_off3 i k 2#32 = ![0, 256 * (2 * (i 2).val - 1 - 2 * (k.val + 1)), 0] :=
  (by decide +kernel : ∀ q k : Fin 8, k.val < q.val →
    (let f := fun r : BitVec 32 => ![0, (Scalar.indexCast (Scalar.muli (Scalar.maxsi (Scalar.subi (Scalar.addi (Scalar.muli 2#32 (BitVec.ofNat 32 q.val)) 1#32)
        (Scalar.addi (Scalar.muli 2#32 (Scf.iv 1#32 1#32 k.val)) r)) 0#32) 256#32) : Index).toNat, 0]
     f 1#32 = ![0, 256 * (2 * q.val - 1 - (2 * k.val + 1)), 0] ∧ f 2#32 = ![0, 256 * (2 * q.val - 1 - 2 * (k.val + 1)), 0]))
    (i 2) ⟨k.val, (klt i k).trans (i 2).isLt⟩ (klt i k)

theorem off4_eq (i : grid0.Coords) (k : Fin (k0_t1_loop i).trips) : k0_off4 i k = ![0, 0, 2 * (i 2).val - 1 - 2 * k.val, 0, 0] :=
  (by decide +kernel : ∀ q k : Fin 8, k.val < q.val →
    ![0, 0, (Scalar.indexCast (Scalar.subi (Scalar.addi (Scalar.muli 2#32 (BitVec.ofNat 32 q.val)) 1#32)
        (Scalar.muli 2#32 (Scf.iv 1#32 1#32 k.val))) : Index).toNat, 0, 0] = ![0, 0, 2 * q.val - 1 - 2 * k.val, 0, 0])
    (i 2) ⟨k.val, (klt i k).trans (i 2).isLt⟩ (klt i k)

theorem off5_eq (i : grid0.Coords) (k : Fin (k0_t1_loop i).trips) : k0_off5 i k = ![0, 0, 2 * (i 2).val - 1 - (2 * k.val + 1), 0, 0] :=
  (by decide +kernel : ∀ q k : Fin 8, k.val < q.val →
    ![0, 0, (Scalar.indexCast (Scalar.subi (Scalar.addi (Scalar.muli 2#32 (BitVec.ofNat 32 q.val)) 1#32)
        (Scalar.addi (Scalar.muli 2#32 (Scf.iv 1#32 1#32 k.val)) 1#32)) : Index).toNat, 0, 0] = ![0, 0, 2 * q.val - 1 - (2 * k.val + 1), 0, 0])
    (i 2) ⟨k.val, (klt i k).trans (i 2).isLt⟩ (klt i k)

section Trip
variable (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S1x512x128 .bf16) (harg6 : arg6.IsWhole) (arg7 : Memref sig .tc .vmem S128x256 .bf16) (harg7 : arg7.IsWhole) (arg8 : Memref sig .tc .vmem S1x512x128 .bf16) (harg8 : arg8.IsWhole) (arg9 : Memref sig .tc .vmem S2x256x1024 .f32) (harg9 : arg9.IsWhole)
  (arg2 : BitVec 32) (v0 : BitVec 32) (v22 : FVec F S128x1024 .bf16) (v109 : FVec F S64x512 .f32) (v113 : FVec F S64x512 .f32) (v114 : FVec F S1x1024 .f32) (v128 : BitVec 32) (v130 : FVec F S256x1024 .f32) (v148 : IVec S256x1024 1) (v151 : FVec F S256x1024 .bf16) (v154 : FVec F S256x1024 .bf16) (v155 : Vec F S128x256 .bf16) (v196 : BitVec 32)
  (x1 : Vec F S1x4096x128 .bf16) (x2 : Vec F S1x1x16x128x256 .bf16) (x4 : Vec F S128x256 .bf16)

theorem readS (x4 : Vec F S128x256 .bf16) :
    View.readAt (Elt F) arg7.view (Rect.unit ![0, 0] S128x256.size inb_S128x256_S128x256_0_0).toLoadRect (harg7.unread x4) = x4 := by
  rw [View.readAt_eq_ld, harg7.read_unread]
  exact View.ld_unit_zero (by decide) _ _

theorem tripR_eq (k : Fin (k0_t1_loop i).trips) (acc : Carry F) (f : BufTy.Contents (Elt F) arg9.view.ty)
    (hf : View.readAt (Elt F) arg9.view slot0.toLoadRect f = k0_pay2 v22 (kblk x1 (2 * (i 2).val - 1 - 2 * k.val))) :
    (trip_k0_t1 (F := F) 𝒱 c bd i arg3 harg3 arg4 harg4 arg5 harg5 arg6 harg6 arg7 harg7 arg8 harg8 arg9 harg9 arg2 v0 v22 v109 v113 v114 v128 v130 v148 v151 v154 v155 (harg4.unread x1) (harg5.unread x2) (harg7.unread x4) k).1 acc f
      = consume id (lg v22 (kblk x1 (2 * (i 2).val - 1 - (2 * k.val + 1)))) x4 (vblk x2 (2 * (i 2).val - 1 - (2 * k.val + 1)))
        (consume id (lg v22 (kblk x1 (2 * (i 2).val - 1 - 2 * k.val))) x4 (vblk x2 (2 * (i 2).val - 1 - 2 * k.val)) acc) := by
  rw [tripR_raw, hf, covSlot1, cast_pay2, cast_pay2, readS, readK arg4 harg4 x1 (2 * (i 2).val - 1 - (2 * k.val + 1)) (off3_eq i k).1, readV arg5 harg5 x2 (2 * (i 2).val - 1 - 2 * k.val) (off4_eq i k),
    readV arg5 harg5 x2 (2 * (i 2).val - 1 - (2 * k.val + 1)) (off5_eq i k)]

theorem st1_fst (X_arg4 : BufTy.Contents (Elt F) arg4.view.ty) (X_arg5 : BufTy.Contents (Elt F) arg5.view.ty) (X_arg7 : BufTy.Contents (Elt F) arg7.view.ty) (G : BufTy.Contents (Elt F) arg9.view.ty) (init : Carry F) (k : Fin (k0_t1_loop i).trips) :
    (st_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 G init (k.val + 1)).1
      = (trip_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 k).1
          (st_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 G init k.val).1
          (arg9.view.writes (Elt F) G (st_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 G init k.val).2) := by
  rw [st_k0_t1_succ]

theorem st1_snd (X_arg4 : BufTy.Contents (Elt F) arg4.view.ty) (X_arg5 : BufTy.Contents (Elt F) arg5.view.ty) (X_arg7 : BufTy.Contents (Elt F) arg7.view.ty) (G : BufTy.Contents (Elt F) arg9.view.ty) (init : Carry F) (k : Fin (k0_t1_loop i).trips) :
    (st_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 G init (k.val + 1)).2
      = (trip_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 k).2.1
          (st_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 G init k.val).1
          (arg9.view.writes (Elt F) G (st_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 G init k.val).2)
        ++ (st_k0_t1 (F := F) 𝒱 c bd i arg3 harg3 arg4 harg4 arg5 harg5 arg6 harg6 arg7 harg7 arg8 harg8 arg9 harg9 arg2 v0 v22 v109 v113 v114 v128 v130 v148 v151 v154 v155 X_arg4 X_arg5 X_arg7 G init k.val).2 := by
  rw [st_k0_t1_succ]

theorem st1_eq (G : BufTy.Contents (Elt F) arg9.view.ty) (init : Carry F)
    (hG : View.readAt (Elt F) arg9.view slot0.toLoadRect G = k0_pay2 v22 (kblk x1 (2 * (i 2).val - 1))) :
    ∀ k : ℕ, k ≤ (k0_t1_loop i).trips →
      (st_k0_t1 (F := F) 𝒱 c bd i arg3 harg3 arg4 harg4 arg5 harg5 arg6 harg6 arg7 harg7 arg8 harg8 arg9 harg9 arg2 v0 v22 v109 v113 v114 v128 v130 v148 v151 v154 v155 (harg4.unread x1) (harg5.unread x2) (harg7.unread x4) G init k).1
          = down v22 x1 x2 x4 (2 * (i 2).val) init (2 * k)
      ∧ View.readAt (Elt F) arg9.view slot0.toLoadRect (arg9.view.writes (Elt F) G
          (st_k0_t1 (F := F) 𝒱 c bd i arg3 harg3 arg4 harg4 arg5 harg5 arg6 harg6 arg7 harg7 arg8 harg8 arg9 harg9 arg2 v0 v22 v109 v113 v114 v128 v130 v148 v151 v154 v155 (harg4.unread x1) (harg5.unread x2) (harg7.unread x4) G init k).2)
          = k0_pay2 v22 (kblk x1 (2 * (i 2).val - 1 - 2 * k))
  | 0, _ => ⟨rfl, hG⟩
  | k + 1, hk => by
    obtain ⟨ih, ihf⟩ := st1_eq G init hG k (by omega)
    constructor
    · refine (st1_fst 𝒱 c bd i arg3 harg3 arg4 harg4 arg5 harg5 arg6 harg6 arg7 harg7 arg8 harg8 arg9 harg9 arg2 v0 v22 v109 v113 v114 v128 v130 v148 v151 v154 v155 (harg4.unread x1) (harg5.unread x2) (harg7.unread x4) G init ⟨k, hk⟩).trans
        ((tripR_eq 𝒱 c bd i arg3 harg3 arg4 harg4 arg5 harg5 arg6 harg6 arg7 harg7 arg8 harg8 arg9 harg9 arg2 v0 v22 v109 v113 v114 v128 v130 v148 v151 v154 v155 x1 x2 x4 ⟨k, hk⟩ _ _ ihf).trans ?_)
      rw [show 2 * (k + 1) = 2 * k + 1 + 1 from by ring, down, down, ← ih]
    · rw [st1_snd 𝒱 c bd i arg3 harg3 arg4 harg4 arg5 harg5 arg6 harg6 arg7 harg7 arg8 harg8 arg9 harg9 arg2 v0 v22 v109 v113 v114 v128 v130 v148 v151 v154 v155 _ _ _ G init ⟨k, hk⟩, tripL_raw 𝒱 c bd i arg3 harg3 arg4 harg4 arg5 harg5 arg6 harg6 arg7 harg7 arg8 harg8 arg9 harg9 arg2 v0 v22 v109 v113 v114 v128 v130 v148 v151 v154 v155 (harg4.unread x1) (harg5.unread x2) (harg7.unread x4) ⟨k, hk⟩,
        List.cons_append, readSlot0 arg9, readK arg4 harg4 x1 (2 * (i 2).val - 1 - 2 * (k + 1)) (off3_eq i ⟨k, hk⟩).2]

theorem st1_last (G : BufTy.Contents (Elt F) arg9.view.ty) (init : Carry F)
    (hG : View.readAt (Elt F) arg9.view slot0.toLoadRect G = k0_pay2 v22 (kblk x1 (2 * (i 2).val - 1))) :
    (st_k0_t1 (F := F) 𝒱 c bd i arg3 harg3 arg4 harg4 arg5 harg5 arg6 harg6 arg7 harg7 arg8 harg8 arg9 harg9 arg2 v0 v22 v109 v113 v114 v128 v130 v148 v151 v154 v155 (harg4.unread x1) (harg5.unread x2) (harg7.unread x4) G init
        (Scf.trips (k0_t1_loop i).lb (k0_t1_loop i).ub (k0_t1_loop i).st)).1
      = down v22 x1 x2 x4 (2 * (i 2).val) init (2 * (i 2).val) := by
  have h := (st1_eq 𝒱 c bd i arg3 harg3 arg4 harg4 arg5 harg5 arg6 harg6 arg7 harg7 arg8 harg8 arg9 harg9 arg2 v0 v22 v109 v113 v114 v128 v130 v148 v151 v154 v155 x1 x2 x4 G init hG (k0_t1_loop i).trips le_rfl).1
  rw [trips1 i] at h
  rw [show Scf.trips (k0_t1_loop i).lb (k0_t1_loop i).ub (k0_t1_loop i).st = (i 2).val from trips1 i]
  exact h

theorem st2_last (X4 : BufTy.Contents (Elt F) arg4.view.ty) (X5 : BufTy.Contents (Elt F) arg5.view.ty) (X7 : BufTy.Contents (Elt F) arg7.view.ty)
    (G : BufTy.Contents (Elt F) arg9.view.ty) (init : Carry F) :
    (st_k0_t2 (F := F) 𝒱 c bd i arg3 harg3 arg4 harg4 arg5 harg5 arg6 harg6 arg7 harg7 arg8 harg8 arg9 harg9 arg2 v0 v22 v109 v113 v114 v128 v130 v148 v151 v154 v155 v196 X4 X5 X7 G init
        (Scf.trips (k0_t2_loop i).lb (k0_t2_loop i).ub (k0_t2_loop i).st)).1 = init := by
  rw [show Scf.trips (k0_t2_loop i).lb (k0_t2_loop i).ub (k0_t2_loop i).st = 0 from trips2 i]
  rfl
end Trip

end Cert.KernelIdeal.Sb
end
-- ==== Proof.Body.lean ====
module

public import proofs.«01_k».proof.Proof.Chain

@[expose] public section

/-! What the body leaves in its output block, from its input blocks. -/

set_option maxRecDepth 16384

noncomputable section

namespace Cert.KernelIdeal.Sb
open Cert.KernelIdeal Cert.KernelIdeal.Gen Idealize.ShloMosaic Idealize.ShloMosaic.TcCoe Idealize.SL.Sem
open Idealize.ShloMosaic.Pipeline (Dat)

variable {F : FTy → Type} [FloatOps F] [Named F]

/-- The rows and the columns of a block, counted. -/
def ioR : IVec S256x512 32 := iota .tc S256x512 32 [0] iota_S256x512_d0_w32
def ioC : IVec S256x512 32 := iota .tc S256x512 32 [1] iota_S256x512_d1_w32

/-- Which keys of the last two chunks come before a query. -/
def mk0 (i : grid0.Coords) : IVec S256x1024 1 := k0_pay52 (Scalar.muli 2#32 (BitVec.ofNat 32 (i 2).val)) ioR ioC
def mk1 (i : grid0.Coords) : IVec S256x1024 1 := k0_pay65 (Scalar.muli 2#32 (BitVec.ofNat 32 (i 2).val)) ioR ioC

/-- What a mask leaves. -/
def only (m : IVec S256x1024 1) (s : FVec F S256x1024 .f32) : FVec F S256x1024 .f32 := select m s zz

/-- Nothing taken in yet. -/
def none0 : Carry F := (k0_pay48, k0_pay45, k0_pay45)

/-- The two chunks on the diagonal. -/
def diag (i : grid0.Coords) (qT : FVec F S128x1024 .bf16) (x1 : Vec F S1x4096x128 .bf16) (x2 : Vec F S1x1x16x128x256 .bf16) (sfx : Vec F S128x256 .bf16) : Carry F :=
  consume (only (mk1 i)) (lg qT (kblk x1 (2 * (i 2).val))) sfx (vblk x2 (2 * (i 2).val))
    (consume (only (mk0 i)) (lg qT (kblk x1 (2 * (i 2).val + 1))) sfx (vblk x2 (2 * (i 2).val + 1)) none0)

/-- All chunks. -/
def allc (i : grid0.Coords) (qT : FVec F S128x1024 .bf16) (x1 : Vec F S1x4096x128 .bf16) (x2 : Vec F S1x1x16x128x256 .bf16) (sfx : Vec F S128x256 .bf16) : Carry F :=
  down qT x1 x2 sfx (2 * (i 2).val) (diag i qT x1 x2 sfx) (2 * (i 2).val)

theorem out_eq (c : Dev nD) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S1x512x128 .bf16) (harg6 : arg6.IsWhole) (arg7 : Memref sig .tc .vmem S128x256 .bf16) (harg7 : arg7.IsWhole) (arg8 : Memref sig .tc .vmem S1x512x128 .bf16) (harg8 : arg8.IsWhole) (arg9 : Memref sig .tc .vmem S2x256x1024 .f32) (harg9 : arg9.IsWhole)
    (x0 : Vec F S1x512x128 .bf16) (x1 : Vec F S1x4096x128 .bf16) (x2 : Vec F S1x1x16x128x256 .bf16) (x3 : Vec F S1x512x128 .bf16) (x4 : Vec F S128x256 .bf16) :
    out0_A_5 c i arg3 harg3 arg4 harg4 arg5 harg5 arg6 harg6 arg7 harg7 arg8 harg8 arg9 harg9 x0 x1 x2 x3 x4
      = k0_pay1 (allc i (k0_pay44 x0) x1 x2 x4).2.1 (allc i (k0_pay44 x0) x1 x2 x4).2.2 x3 := by
  have hq : (View.readAt (Elt F) arg3.view (Rect.unit ![0, 0, 0] S1x512x128.size inb_S1x512x128_S1x512x128_0_0_0).toLoadRect (harg3.unread x0)) = x0 := by
    rw [View.readAt_eq_ld, harg3.read_unread]
    exact View.ld_unit_zero (by decide) _ _
  have hg : (View.readAt (Elt F) arg6.view (Rect.unit ![0, 0, 0] S1x512x128.size inb_S1x512x128_S1x512x128_0_0_0).toLoadRect (harg6.unread x3)) = x3 := by
    rw [View.readAt_eq_ld, harg6.read_unread]
    exact View.ld_unit_zero (by decide) _ _
  have hs := readS arg7 harg7 x4
  have hk0 := readK arg4 harg4 x1 (inb := Gen.facts.k0_off1_inb i 0) (2 * (i 2).val + 1) (off1_eq i).1
  have hk1 := readK arg4 harg4 x1 (inb := Gen.facts.k0_off1_inb i 1) (2 * (i 2).val) (off1_eq i).2.1
  have hk2 := readK arg4 harg4 x1 (inb := Gen.facts.k0_off1_inb i 2) (2 * (i 2).val - 1) (off1_eq i).2.2
  have hv0 := readV arg5 harg5 x2 (inb := Gen.facts.k0_off2_inb i 0) (2 * (i 2).val + 1) (off2_eq i).1
  have hv1 := readV arg5 harg5 x2 (inb := Gen.facts.k0_off2_inb i 1) (2 * (i 2).val) (off2_eq i).2
  unfold out0_A_5
  rw [View.read_writes_eq_canon _ _ _ (cover0_A_5 c i arg3 harg3 arg4 harg4 arg5 harg5 arg6 harg6 arg7 harg7 arg8 harg8 arg9 harg9 x0 x1 x2 x3 x4)]
  unfold kernelRun0_A
  dsimp only
  rw [View.canon_unit_zero (by decide)]
  refine (congrArg (fun z : Carry F => k0_pay1 z.2.1 z.2.2 _) (st2_last Variants.none c none i arg3 harg3 arg4 harg4 arg5 harg5 arg6 harg6 arg7 harg7 arg8 harg8 arg9 harg9 _ _ _ _ _ _ _ _ _ _ _ _ _ _ _ _ _ _)).trans ?_
  refine (congrArg (fun z : Carry F => k0_pay1 z.2.1 z.2.2 _) (st1_last Variants.none c none i arg3 harg3 arg4 harg4 arg5 harg5 arg6 harg6 arg7 harg7 arg8 harg8 arg9 harg9 _ _ _ _ _ _ _ _ _ _ _ _ x1 x2 x4 _ _
    ((readSlot0 arg9 _ _ _).trans (congrArg₂ k0_pay2 (rfl : _ = kernelRun0_A.sl.r c arg3 harg3 x0) hk2)))).trans ?_
  have hr : kernelRun0_A.sl.r c arg3 harg3 x0 = k0_pay44 x0 := congrArg k0_pay44 hq
  rw [hr, hg]
  refine congrArg (fun S : Carry F => k0_pay1 (down (k0_pay44 x0) x1 x2 x4 (2 * (i 2).val) S (2 * (i 2).val)).2.1
    (down (k0_pay44 x0) x1 x2 x4 (2 * (i 2).val) S (2 * (i 2).val)).2.2 x3) ?_
  have e : ∀ S : Carry F, S = (consume (only (mk1 i)) (shapeCast S256x1024 (arg9.view.readCov (Val := Elt F) [⟨slot0, k0_pay2 (k0_pay44 (View.readAt (Elt F) arg3.view (Rect.unit ![0, 0, 0] S1x512x128.size inb_S1x512x128_S1x512x128_0_0_0).toLoadRect (harg3.unread x0))) (View.readAt (Elt F) arg4.view (Rect.unit (s := S1x4096x128) (k0_off1 i 2#32) S1x256x128.size (Gen.facts.k0_off1_inb i 2)).toLoadRect (harg4.unread x1))⟩, ⟨slot1, k0_pay2 (k0_pay44 (View.readAt (Elt F) arg3.view (Rect.unit ![0, 0, 0] S1x512x128.size inb_S1x512x128_S1x512x128_0_0_0).toLoadRect (harg3.unread x0))) (View.readAt (Elt F) arg4.view (Rect.unit (s := S1x4096x128) (k0_off1 i 1#32) S1x256x128.size (Gen.facts.k0_off1_inb i 1)).toLoadRect (harg4.unread x1))⟩, ⟨slot0, k0_pay2 (k0_pay44 (View.readAt (Elt F) arg3.view (Rect.unit ![0, 0, 0] S1x512x128.size inb_S1x512x128_S1x512x128_0_0_0).toLoadRect (harg3.unread x0))) (View.readAt (Elt F) arg4.view (Rect.unit (s := S1x4096x128) (k0_off1 i 0#32) S1x256x128.size (Gen.facts.k0_off1_inb i 0)).toLoadRect (harg4.unread x1))⟩]
      slot1.toLoadRect) shapeCasts_S1x256x1024_S256x1024) (View.readAt (Elt F) arg7.view (Rect.unit ![0, 0] S128x256.size inb_S128x256_S128x256_0_0).toLoadRect (harg7.unread x4)) (View.readAt (Elt F) arg5.view (Rect.unit (s := S1x1x16x128x256) (k0_off2 i 1#32) S1x1x1x128x256.size (Gen.facts.k0_off2_inb i 1)).toLoadRect (harg5.unread x2))
      (consume (only (mk0 i)) (shapeCast S256x1024 (arg9.view.readCov (Val := Elt F) [⟨slot1, k0_pay2 (k0_pay44 (View.readAt (Elt F) arg3.view (Rect.unit ![0, 0, 0] S1x512x128.size inb_S1x512x128_S1x512x128_0_0_0).toLoadRect (harg3.unread x0))) (View.readAt (Elt F) arg4.view (Rect.unit (s := S1x4096x128) (k0_off1 i 1#32) S1x256x128.size (Gen.facts.k0_off1_inb i 1)).toLoadRect (harg4.unread x1))⟩, ⟨slot0, k0_pay2 (k0_pay44 (View.readAt (Elt F) arg3.view (Rect.unit ![0, 0, 0] S1x512x128.size inb_S1x512x128_S1x512x128_0_0_0).toLoadRect (harg3.unread x0))) (View.readAt (Elt F) arg4.view (Rect.unit (s := S1x4096x128) (k0_off1 i 0#32) S1x256x128.size (Gen.facts.k0_off1_inb i 0)).toLoadRect (harg4.unread x1))⟩]
      slot0.toLoadRect) shapeCasts_S1x256x1024_S256x1024) (View.readAt (Elt F) arg7.view (Rect.unit ![0, 0] S128x256.size inb_S128x256_S128x256_0_0).toLoadRect (harg7.unread x4)) (View.readAt (Elt F) arg5.view (Rect.unit (s := S1x1x16x128x256) (k0_off2 i 0#32) S1x1x1x128x256.size (Gen.facts.k0_off2_inb i 0)).toLoadRect (harg5.unread x2)) none0)) → S = diag i (k0_pay44 x0) x1 x2 x4 := by
    intro S hS
    rw [hS, covSlot1, covSlot0, cast_pay2, cast_pay2, hq]
    unfold diag
    rw [← hk0, ← hk1, ← hv0, ← hv1, hs]
    rfl
  exact e _ rfl

end Cert.KernelIdeal.Sb
end
-- ==== Proof.Reals.lean ====
module

public import Idealize.ShloMosaic.PureOps.Ideal

@[expose] public section

/-! Sums, maxima and absolute values of real numbers among the extended reals. -/

noncomputable section

namespace Cert.Reals
open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) y := by
  rcases le_total x y with h | h
  · rw [max_eq_right h, max_eq_right (EReal.coe_le_coe_iff.mpr h)]
  · rw [max_eq_left h, max_eq_left (EReal.coe_le_coe_iff.mpr h)]

theorem absf_coe (x : ℝ) : FloatOps.absf (F := Ideal) (φ := .f32) ((x : ℝ) : EReal) = ((|x| : ℝ) : EReal) := by
  show max ((x : ℝ) : EReal) (-((x : ℝ) : EReal)) = _
  rw [← EReal.coe_neg, ← coe_max]; rfl

end Cert.Reals
end
-- ==== Proof.Step.lean ====
module

public import proofs.«01_k».proof.Proof.Body
public import Idealize.ShloMosaic.PureOps.Ideal
public import proofs.«01_k».proof.Proof.Reals

@[expose] public section

/-! One step of the chain over the extended reals, at one query: what a chunk adds to the softplus sum and to the output. -/

set_option maxRecDepth 16384

noncomputable section

namespace Cert.KernelIdeal.Sb
open Cert.KernelIdeal Cert.KernelIdeal.Gen Idealize.ShloMosaic Idealize.ShloMosaic.TcCoe Idealize.SL.Sem
open Idealize.ShloMosaic.Pointwise
open Finset (Ico)
open Cert.Reals

/-- Softplus in base two. -/
def sp2 (x : ℝ) : ℝ := max x 0 + Real.log (1 + (2 : ℝ) ^ (-|x|)) * (Real.log 2)⁻¹

/-- The suffix matrix, written twice. -/
def IsSfx (sfx : Vec Ideal S128x256 .bf16) : Prop :=
  ∀ (r : Fin 128) (k : Fin 256), sfx (ix2 r k) = if r.val ≤ k.val % 128 then 1 else 0

theorem exp2_coe' (x : ℝ) : FloatOps.exp2 (F := Ideal) (φ := .f32) ((x : ℝ) : EReal) = (((2 : ℝ) ^ x : ℝ) : EReal) := rfl

theorem log2e_eq : Named.named (F := Ideal) (φ := .f32) κ "log2e" 0x3FB8AA3B#32 = (((Real.log 2)⁻¹ : ℝ) : EReal) := rfl

theorem lg_apply (qT : FVec Ideal S128x1024 .bf16) (kb : Vec Ideal S1x256x128 .bf16) (j : Fin 256) (l : Fin 1024) :
    lg qT kb (ix2 j l) = ∑ k : Fin 128, kb (ix3 0 j k) * qT (ix2 k l) := by
  pointwise [lg]

theorem sp_apply (z : FVec Ideal S256x1024 .f32) (j : Fin 256) (l : Fin 1024) (x : ℝ) (h : z (ix2 j l) = (x : EReal)) :
    sp z (ix2 j l) = (sp2 x : EReal) := by
  pointwise [sp, zz]
  have h1 : (1 : ℝ) + (2 : ℝ) ^ (-|x|) > 0 := by positivity
  rw [h, absf_coe, zero_sub, ← EReal.coe_neg, exp2_coe', log2e_eq, ← EReal.coe_zero, ← EReal.coe_one, ← coe_max, ← EReal.coe_add, Ideal.log_coe,
    if_neg (not_le.mpr h1), ← EReal.coe_mul, ← EReal.coe_add]
  rfl

theorem sum_suffix (a : ℕ → ℝ) (r : ℕ) :
    ∑ x : Fin 128, (if r ≤ x.val then (1 : EReal) else 0) * ((a x.val : ℝ) : EReal) = ((∑ x ∈ Ico r 128, a x : ℝ) : EReal) := by
  have e : ∀ x : Fin 128, (if r ≤ x.val then (1 : EReal) else 0) * ((a x.val : ℝ) : EReal)
      = (((if r ≤ x.val then a x.val else 0 : ℝ)) : EReal) := by
    intro x
    split_ifs <;> simp
  rw [Finset.sum_congr rfl fun x _ => e x, ← coe_sum, Fin.sum_univ_eq_sum_range (fun x => if r ≤ x then a x else 0) 128, ← Finset.sum_filter]
  congr 2
  ext x
  simp only [Finset.mem_filter, Finset.mem_range, Finset.mem_Ico]
  omega

section Suffix
variable (s : FVec Ideal S256x1024 .f32) (sfx : Vec Ideal S128x256 .bf16) (hS : IsSfx sfx) (l : Fin 1024) (σ : ℕ → ℝ)
  (hs : ∀ j : Fin 256, s (ix2 j l) = (σ j.val : EReal))
include hS hs

theorem sufHi_apply (r : Fin 128) : sufHi s sfx (ix2 r l) = ((∑ x ∈ Ico (128 + r.val) 256, σ x : ℝ) : EReal) := by
  pointwise [sufHi, hi, lo]
  have e1 : ∀ x : Fin 128, sfx (ix2 r ⟨x.val, by omega⟩) * s (ix2 ⟨128 + x.val, by omega⟩ l)
      = (if r.val ≤ x.val then (1 : EReal) else 0) * ((σ (128 + x.val) : ℝ) : EReal) := by
    intro x
    rw [hS, hs, Nat.mod_eq_of_lt x.isLt]
  have e2 : ∀ x : Fin 128, sfx (ix2 r ⟨128 + x.val, by omega⟩) * (s (ix2 ⟨128 + x.val, by omega⟩ l) - s (ix2 ⟨128 + x.val, by omega⟩ l)) = 0 := by
    intro x
    rw [hs, ← EReal.coe_sub, sub_self, EReal.coe_zero, mul_zero]
  rw [Finset.sum_congr rfl fun x _ => e1 x, Finset.sum_congr rfl fun x _ => e2 x, Finset.sum_const_zero, add_zero,
    sum_suffix (fun x => σ (128 + x)) r.val, Finset.sum_Ico_add σ r.val 128 128, Nat.add_comm r.val 128]

theorem sufLo_apply (r : Fin 128) : sufLo s sfx (ix2 r l) = ((∑ x ∈ Ico r.val 256, σ x : ℝ) : EReal) := by
  pointwise [sufLo, hi, lo]
  have e1 : ∀ x : Fin 128, sfx (ix2 r ⟨x.val, by omega⟩) * s (ix2 ⟨x.val, by omega⟩ l)
      = (if r.val ≤ x.val then (1 : EReal) else 0) * ((σ x.val : ℝ) : EReal) := by
    intro x
    rw [hS, hs, Nat.mod_eq_of_lt x.isLt]
  have e2 : ∀ x : Fin 128, sfx (ix2 r ⟨128 + x.val, by omega⟩) * (s (ix2 ⟨x.val, by omega⟩ l) - s (ix2 ⟨x.val, by omega⟩ l)) = 0 := by
    intro x
    rw [hs, ← EReal.coe_sub, sub_self, EReal.coe_zero, mul_zero]
  rw [Finset.sum_congr rfl fun x _ => e1 x, Finset.sum_congr rfl fun x _ => e2 x, Finset.sum_const_zero, add_zero,
    sum_suffix σ r.val, sufHi_apply s sfx hS l σ hs 0, ← EReal.coe_add, show 128 + (0 : Fin 128).val = 128 from rfl, Finset.sum_Ico_consecutive σ (by omega) (by decide)]

theorem ex_apply (later : FVec Ideal S1x1024 .f32) (z : FVec Ideal S256x1024 .f32) (j : Fin 256) (x L : ℝ)
    (hz : z (ix2 j l) = (x : EReal)) (hl : later (ix2 0 l) = (L : EReal)) :
    ex later z s sfx (ix2 j l) = (((2 : ℝ) ^ (x - ∑ i ∈ Ico j.val 256, σ i - L) : ℝ) : EReal) := by
  have e : (if h : j.val < 128 then sufLo s sfx (ix2 ⟨j.val, h⟩ l) else sufHi s sfx (ix2 ⟨j.val - 128, by omega⟩ l))
      = ((∑ i ∈ Ico j.val 256, σ i : ℝ) : EReal) := by
    split_ifs with h
    · exact sufLo_apply s sfx hS l σ hs _
    · rw [sufHi_apply s sfx hS l σ hs]
      show ((∑ i ∈ Ico (128 + (j.val - 128)) 256, σ i : ℝ) : EReal) = _
      rw [show 128 + (j.val - 128) = j.val by omega]
  pointwise [ex]
  rw [e, hz, hl, ← EReal.coe_sub, ← EReal.coe_sub, exp2_coe']
end Suffix

section Step
variable (fin : FVec Ideal S256x1024 .f32 → FVec Ideal S256x1024 .f32) (z : FVec Ideal S256x1024 .f32) (sfx : Vec Ideal S128x256 .bf16)
  (hS : IsSfx sfx) (vb : Vec Ideal S1x1x1x128x256 .bf16) (c : Carry Ideal) (l : Fin 1024) (x : ℕ → ℝ) (mk : ℕ → Prop) [DecidablePred mk] (L : ℝ)
  (hz : ∀ j : Fin 256, z (ix2 j l) = (x j.val : EReal))
  (hfin : ∀ (s : FVec Ideal S256x1024 .f32) (j : Fin 256), fin s (ix2 j l) = if mk j.val then s (ix2 j l) else 0)
  (hl : c.1 (ix2 0 l) = (L : EReal))

/-- The softplus that the mask leaves. -/
def left (x : ℕ → ℝ) (mk : ℕ → Prop) [DecidablePred mk] (j : ℕ) : ℝ := if mk j then sp2 (x j) else 0

include hz hfin in
theorem fin_sp (j : Fin 256) : fin (sp z) (ix2 j l) = (left x mk j.val : EReal) := by
  rw [hfin, sp_apply z j l _ (hz j)]
  unfold left
  split_ifs <;> simp

include hS hz hfin hl
theorem fin_ex (j : Fin 256) : fin (ex c.1 z (fin (sp z)) sfx) (ix2 j l)
    = (((if mk j.val then (2 : ℝ) ^ (x j.val - ∑ i ∈ Ico j.val 256, left x mk i - L) else 0) : ℝ) : EReal) := by
  rw [hfin, ex_apply (fin (sp z)) sfx hS l (left x mk) (fin_sp fin z l x mk hz hfin) c.1 z j _ L (hz j) hl]
  split_ifs <;> simp

theorem consume_later : (consume fin z sfx vb c).1 (ix2 0 l) = ((∑ i ∈ Ico 0 256, left x mk i + L : ℝ) : EReal) := by
  pointwise [consume]
  rw [hl, sufLo_apply (fin (sp z)) sfx hS l (left x mk) (fin_sp fin z l x mk hz hfin) 0, ← EReal.coe_add, add_comm]
  rfl

theorem consume_out0 (d : Fin 64) (t : Fin 512) (ht : l = ⟨t.val, by omega⟩) : (consume fin z sfx vb c).2.1 (ix2 d t)
    = c.2.1 (ix2 d t) + ∑ j : Fin 256, vb (ix5 0 0 0 ⟨d.val, by omega⟩ j)
      * (((if mk j.val then (2 : ℝ) ^ (x j.val - ∑ i ∈ Ico j.val 256, left x mk i - L) else 0) : ℝ) : EReal) := by
  have h := fin_ex fin z sfx hS c l x mk L hz hfin hl
  subst ht
  pointwise [consume, acc0]
  exact congrArg _ (Finset.sum_congr rfl fun j _ => congrArg _ (h j))

theorem consume_out1 (d : Fin 64) (t : Fin 512) (ht : l = ⟨512 + t.val, by omega⟩) : (consume fin z sfx vb c).2.2 (ix2 d t)
    = c.2.2 (ix2 d t) + ∑ j : Fin 256, vb (ix5 0 0 0 ⟨64 + d.val, by omega⟩ j)
      * (((if mk j.val then (2 : ℝ) ^ (x j.val - ∑ i ∈ Ico j.val 256, left x mk i - L) else 0) : ℝ) : EReal) := by
  have h := fin_ex fin z sfx hS c l x mk L hz hfin hl
  subst ht
  pointwise [consume, acc1]
  exact congrArg _ (Finset.sum_congr rfl fun j _ => congrArg _ (h j))
end Step

end Cert.KernelIdeal.Sb
end
-- ==== Proof.Fold.lean ====
module

public import proofs.«01_k».proof.Proof.Step
public import Idealize.ShloMosaic.Lib.WordCmp

@[expose] public section

/-! All the chunks, at one query: after the chunks from `n` on, the carried sums are the softplus sum over the keys from `n`
    on and the weighted sum of their values. -/

set_option maxRecDepth 16384

noncomputable section

namespace Cert.KernelIdeal.Sb
open Cert.KernelIdeal Cert.KernelIdeal.Gen Idealize.ShloMosaic Idealize.ShloMosaic.TcCoe Idealize.SL.Sem
open Idealize.ShloMosaic.Pointwise
open Finset (Ico)
open Cert.Reals

/-- The softplus of the keys before query `T`. -/
def soft (X : ℕ → ℝ) (T g : ℕ) : ℝ := left X (· < T) g

/-- The weight of a key, the softplus summed up to `N`. -/
def wt (X : ℕ → ℝ) (T N g : ℕ) : ℝ := if g < T then (2 : ℝ) ^ (X g - ∑ i ∈ Ico g N, soft X T i) else 0

theorem later_step (f : ℕ → ℝ) (b N : ℕ) (h : b + 256 ≤ N) :
    ∑ i ∈ Ico 0 256, f (b + i) + ∑ i ∈ Ico (b + 256) N, f i = ∑ i ∈ Ico b N, f i := by
  rw [Finset.sum_Ico_add f 0 256 b, Nat.zero_add, Nat.add_comm 256 b, Finset.sum_Ico_consecutive f (by omega) h]

theorem out_step (X : ℕ → ℝ) (V : ℕ → EReal) (T N b : ℕ) (h : b + 256 ≤ N) :
    ∑ g ∈ Ico (b + 256) N, V g * (wt X T N g : EReal)
      + ∑ j : Fin 256, V (b + j.val) * (((if b + j.val < T then (2 : ℝ) ^ (X (b + j.val) - ∑ i ∈ Ico j.val 256, soft X T (b + i)
          - ∑ i ∈ Ico (b + 256) N, soft X T i) else 0) : ℝ) : EReal)
      = ∑ g ∈ Ico b N, V g * (wt X T N g : EReal) := by
  have e : ∀ j : Fin 256, V (b + j.val) * (((if b + j.val < T then (2 : ℝ) ^ (X (b + j.val) - ∑ i ∈ Ico j.val 256, soft X T (b + i)
          - ∑ i ∈ Ico (b + 256) N, soft X T i) else 0) : ℝ) : EReal) = V (b + j.val) * (wt X T N (b + j.val) : EReal) := by
    intro j
    unfold wt
    rw [Finset.sum_Ico_add (soft X T) j.val 256 b, Nat.add_comm j.val b, Nat.add_comm 256 b, sub_sub,
      Finset.sum_Ico_consecutive (soft X T) (by omega) h]
  rw [Finset.sum_congr rfl fun j _ => e j, Fin.sum_univ_eq_sum_range (fun j => V (b + j) * (wt X T N (b + j) : EReal)) 256,
    ← Nat.Ico_zero_eq_range, Finset.sum_Ico_add (fun j => V j * (wt X T N j : EReal)) 0 256 b, Nat.zero_add, Nat.add_comm 256 b, add_comm,
    Finset.sum_Ico_consecutive _ (by omega) h]

/-- What the carried sums are once the keys from `n` on are taken in. -/
structure Inv (X : ℕ → ℝ) (V : Fin 128 → ℕ → EReal) (T N : ℕ) (hf : Fin 2) (t : Fin 512) (n : ℕ) (c : Carry Ideal) : Prop where
  later : c.1 (ix2 0 ⟨512 * hf.val + t.val, by omega⟩) = ((∑ i ∈ Ico n N, soft X T i : ℝ) : EReal)
  out0 : hf = 0 → ∀ d : Fin 64, c.2.1 (ix2 d t) = ∑ g ∈ Ico n N, V ⟨d.val, by omega⟩ g * (wt X T N g : EReal)
  out1 : hf = 1 → ∀ d : Fin 64, c.2.2 (ix2 d t) = ∑ g ∈ Ico n N, V ⟨64 + d.val, by omega⟩ g * (wt X T N g : EReal)

section Fold
variable (sfx : Vec Ideal S128x256 .bf16) (hS : IsSfx sfx) (X : ℕ → ℝ) (V : Fin 128 → ℕ → EReal) (T N : ℕ) (hf : Fin 2) (t : Fin 512)
include hS

theorem inv_consume (fin : FVec Ideal S256x1024 .f32 → FVec Ideal S256x1024 .f32) (z : FVec Ideal S256x1024 .f32)
    (vb : Vec Ideal S1x1x1x128x256 .bf16) (c : Carry Ideal) (b n : ℕ) (hn : n = b + 256) (hN : b + 256 ≤ N)
    (hz : ∀ j : Fin 256, z (ix2 j ⟨512 * hf.val + t.val, by omega⟩) = (X (b + j.val) : EReal))
    (hv : ∀ (d : Fin 128) (j : Fin 256), vb (ix5 0 0 0 d j) = V d (b + j.val))
    (hfin : ∀ (s : FVec Ideal S256x1024 .f32) (j : Fin 256), fin s (ix2 j ⟨512 * hf.val + t.val, by omega⟩)
      = if b + j.val < T then s (ix2 j ⟨512 * hf.val + t.val, by omega⟩) else 0)
    (h : Inv X V T N hf t n c) : Inv X V T N hf t b (consume fin z sfx vb c) := by
  subst hn
  refine ⟨?_, ?_, ?_⟩
  · rw [consume_later fin z sfx hS vb c _ (fun j => X (b + j)) (fun j => b + j < T) _ hz hfin h.later, ← later_step (soft X T) b N hN]
    rfl
  · intro hh d
    rw [consume_out0 fin z sfx hS vb c _ (fun j => X (b + j)) (fun j => b + j < T) _ hz hfin h.later d t (by subst hh; exact Fin.ext (by simp)),
      h.out0 hh d, ← out_step X _ T N b hN]
    exact congrArg _ (Finset.sum_congr rfl fun j _ => by rw [hv]; rfl)
  · intro hh d
    rw [consume_out1 fin z sfx hS vb c _ (fun j => X (b + j)) (fun j => b + j < T) _ hz hfin h.later d t (by subst hh; exact Fin.ext (by simp)),
      h.out1 hh d, ← out_step X _ T N b hN]
    exact congrArg _ (Finset.sum_congr rfl fun j _ => by rw [hv]; rfl)

theorem inv_down (qT : FVec Ideal S128x1024 .bf16) (x1 : Vec Ideal S1x4096x128 .bf16) (x2 : Vec Ideal S1x1x16x128x256 .bf16) (n : ℕ) (c0 : Carry Ideal)
    (hN : 256 * n ≤ N) (hT : 256 * n ≤ T)
    (hz : ∀ ch < n, ∀ j : Fin 256, lg qT (kblk x1 ch) (ix2 j ⟨512 * hf.val + t.val, by omega⟩) = (X (256 * ch + j.val) : EReal))
    (hv : ∀ ch < n, ∀ (d : Fin 128) (j : Fin 256), vblk x2 ch (ix5 0 0 0 d j) = V d (256 * ch + j.val))
    (h : Inv X V T N hf t (256 * n) c0) (u : ℕ) (hu : u ≤ n) : Inv X V T N hf t (256 * (n - u)) (down qT x1 x2 sfx n c0 u) := by
  induction u with
  | zero => exact h
  | succ u ih =>
    refine inv_consume sfx hS X V T N hf t id _ _ _ (256 * (n - (u + 1))) (256 * (n - u)) (by omega) (by omega) ?_ ?_ ?_ (ih (by omega))
    · intro j
      rw [show n - 1 - u = n - (u + 1) by omega]
      exact hz _ (by omega) j
    · intro d j
      rw [show n - 1 - u = n - (u + 1) by omega]
      exact hv _ (by omega) d j
    · intro s j
      exact (if_pos (by have := j.isLt; omega)).symm
end Fold

theorem base0 (a : BitVec 32) : Scalar.muli (Scalar.subi (Scalar.subi (Scalar.addi a 1#32) 0#32) a) 256#32 = BitVec.ofNat 32 256 := by
  show (a + 1#32 - 0#32 - a) * 256#32 = BitVec.ofNat 32 256
  rw [show a + 1#32 - 0#32 - a = 1#32 by bv_omega]
  rfl

theorem base1 (a : BitVec 32) : Scalar.muli (Scalar.subi (Scalar.subi (Scalar.addi a 1#32) 1#32) a) 256#32 = BitVec.ofNat 32 0 := by
  show (a + 1#32 - 1#32 - a) * 256#32 = BitVec.ofNat 32 0
  rw [show a + 1#32 - 1#32 - a = 0#32 by bv_omega]
  rfl

theorem slt_at (b j t : ℕ) (hb : b ≤ 256) (hj : j < 256) (ht : t < 512) :
    IntOp.cmpi .slt (IntOp.addi (BitVec.ofNat 32 b) (BitVec.ofNat 32 j)) (BitVec.ofNat 32 t) = BitVec.ofBool (decide (b + j < t)) := by
  rw [show IntOp.addi (BitVec.ofNat 32 b) (BitVec.ofNat 32 j) = BitVec.ofNat 32 (b + j) from (BitVec.ofNat_add ..).symm]
  exact WordCmp.cmpi_slt_ofNat (by omega) (by omega)

theorem select_bool {α : Type} (p : Prop) [Decidable p] (a b : α) : Scalar.select (BitVec.ofBool (decide p)) a b = if p then a else b := by
  by_cases h : p <;> simp [h, Scalar.select]

theorem lane_dite {α : Type} (f : ℕ → α) (hf : Fin 2) (t : Fin 512) :
    (if h : 512 * hf.val + t.val < 512 then f (512 * hf.val + t.val) else f (512 * hf.val + t.val - 512)) = f t.val := by
  have := t.isLt
  have := hf.isLt
  split_ifs with h
  · rw [show 512 * hf.val + t.val = t.val by omega]
  · rw [show 512 * hf.val + t.val - 512 = t.val by omega]

/-- The masks of the two last chunks: which keys come before the query. -/
theorem mk0_apply (i : grid0.Coords) (s : FVec Ideal S256x1024 .f32) (j : Fin 256) (hf : Fin 2) (t : Fin 512) :
    only (mk0 i) s (ix2 j ⟨512 * hf.val + t.val, by omega⟩) = if 256 + j.val < t.val then s (ix2 j ⟨512 * hf.val + t.val, by omega⟩) else 0 := by
  pointwise [only, mk0, k0_pay52, ioR, ioC, zz]
  rw [base0]
  rw [lane_dite (fun n => IntOp.cmpi .slt (IntOp.addi (BitVec.ofNat 32 256) (BitVec.ofNat 32 j.val)) (BitVec.ofNat 32 n)) hf t,
    slt_at _ _ _ (by omega) j.isLt t.isLt, select_bool]

theorem mk1_apply (i : grid0.Coords) (s : FVec Ideal S256x1024 .f32) (j : Fin 256) (hf : Fin 2) (t : Fin 512) :
    only (mk1 i) s (ix2 j ⟨512 * hf.val + t.val, by omega⟩) = if j.val < t.val then s (ix2 j ⟨512 * hf.val + t.val, by omega⟩) else 0 := by
  pointwise [only, mk1, k0_pay65, ioR, ioC, zz]
  rw [base1]
  rw [lane_dite (fun n => IntOp.cmpi .slt (IntOp.addi (BitVec.ofNat 32 0) (BitVec.ofNat 32 j.val)) (BitVec.ofNat 32 n)) hf t,
    slt_at _ _ _ (by omega) j.isLt t.isLt, select_bool, Nat.zero_add]

theorem inv_none (X : ℕ → ℝ) (V : Fin 128 → ℕ → EReal) (T N : ℕ) (hf : Fin 2) (t : Fin 512) : Inv X V T N hf t N (none0 (F := Ideal)) := by
  refine ⟨?_, ?_, ?_⟩
  · rw [Finset.Ico_self, Finset.sum_empty, EReal.coe_zero]
    pointwise [none0, k0_pay48]
  · intro _ d
    rw [Finset.Ico_self, Finset.sum_empty]
    pointwise [none0, k0_pay45]
  · intro _ d
    rw [Finset.Ico_self, Finset.sum_empty]
    pointwise [none0, k0_pay45]

/-- All chunks: the carried sums are over all keys up to the query block's end. -/
theorem inv_allc (i : grid0.Coords) (qT : FVec Ideal S128x1024 .bf16) (x1 : Vec Ideal S1x4096x128 .bf16) (x2 : Vec Ideal S1x1x16x128x256 .bf16)
    (sfx : Vec Ideal S128x256 .bf16) (hS : IsSfx sfx) (X : ℕ → ℝ) (V : Fin 128 → ℕ → EReal) (hf : Fin 2) (t : Fin 512)
    (hz : ∀ ch < 16, ∀ j : Fin 256, lg qT (kblk x1 ch) (ix2 j ⟨512 * hf.val + t.val, by omega⟩) = (X (256 * ch + j.val) : EReal))
    (hv : ∀ ch < 16, ∀ (d : Fin 128) (j : Fin 256), vblk x2 ch (ix5 0 0 0 d j) = V d (256 * ch + j.val)) :
    Inv X V (512 * (i 2).val + t.val) (512 * (i 2).val + 512) hf t 0 (allc i qT x1 x2 sfx) := by
  have hi : (i 2).val < 8 := (i 2).isLt
  have h := inv_down sfx hS X V (512 * (i 2).val + t.val) (512 * (i 2).val + 512) hf t qT x1 x2 (2 * (i 2).val) (diag i qT x1 x2 sfx)
    (by omega) (by omega) (fun ch hc => hz ch (by omega)) (fun ch hc => hv ch (by omega)) ?_ (2 * (i 2).val) le_rfl
  · rw [Nat.sub_self, Nat.mul_zero] at h
    exact h
  · refine inv_consume sfx hS X V _ _ hf t (only (mk1 i)) _ _ _ (256 * (2 * (i 2).val)) (256 * (2 * (i 2).val + 1)) (by omega) (by omega)
      (hz _ (by omega)) (hv _ (by omega)) ?_ ?_
    · intro s j
      rw [mk1_apply]
      exact if_congr (by omega) rfl rfl
    · refine inv_consume sfx hS X V _ _ hf t (only (mk0 i)) _ _ _ (256 * (2 * (i 2).val + 1)) (512 * (i 2).val + 512) (by omega) (by omega)
        (hz _ (by omega)) (hv _ (by omega)) ?_ (inv_none X V _ _ hf t)
      intro s j
      rw [mk0_apply]
      exact if_congr (by omega) rfl rfl

end Cert.KernelIdeal.Sb
end
-- ==== Proof.Ref.lean ====
module

public import proofs.«01_k».proof.Proof.Gen.ReferenceIdeal.Read
public import Idealize.ShloMosaic.Lib.Pointwise
public import proofs.«01_k».proof.Proof.Reals
public import Idealize.ShloMosaic.Lib.WordCmp
public import Idealize.ShloMosaic.PureOps.Ideal

@[expose] public section

/-! The reference at an index. -/

set_option maxRecDepth 16384

noncomputable section

namespace Cert.ReferenceIdeal.Sb
open Cert.ReferenceIdeal Cert.ReferenceIdeal.Gen Cert.ReferenceIdeal.Read Idealize.ShloMosaic Idealize.ShloMosaic.TcCoe Idealize.SL.Sem
open Idealize.ShloMosaic.Pointwise Idealize.ShloMosaic.StableHlo
open Finset (Ico)
open Cert.Reals

/-- Softplus. -/
def spn (y : ℝ) : ℝ := max y 0 + Real.log (1 + Real.exp (-|y|))

/-- The softplus of the keys before query `T`. -/
def softn (z : ℕ → ℝ) (T g : ℕ) : ℝ := if g < T then spn (z g) else 0

/-- The attention weight of key `g`. -/
def aw (z : ℕ → ℝ) (T g : ℕ) : ℝ := if g < T then Real.exp (z g - ∑ i ∈ Ico g 4096, softn z T i) else 0

/-- The logit of a query and a key. -/
def zr (q k : S8x4096x512.Idx → ℝ) (b h : Fin 8) (T : Fin 4096) (g : ℕ) : ℝ :=
  (∑ d : Fin 64, q (ix3 b T ⟨h.val * 64 + d.val, by omega⟩) * k (ix3 b ⟨min g 4095, by omega⟩ ⟨h.val * 64 + d.val, by omega⟩)) * (1 / 8)

theorem eighth : Ideal.ofBits FTy.f32 0x3E000000#32 = ((1 / 8 : ℝ) : EReal) := by
  simp [Ideal.ofBits, Ideal.ieee, -EReal.coe_mul]
  norm_num

/-- The chain of operations that is softplus. -/
theorem spn_chain (y : ℝ) : (if ((y : ℝ) : EReal) ≠ ((y : ℝ) : EReal) then ((y : ℝ) : EReal) else
    max ((y : ℝ) : EReal) 0 + Ideal.log1p (Ideal.exp (-FloatOps.absf (F := Ideal) (φ := .f32) ((y : ℝ) : EReal)))) = (spn y : EReal) := by
  rw [if_neg (by simp), absf_coe, ← EReal.coe_neg, Ideal.exp_coe, Ideal.log1p, ← EReal.coe_one, ← EReal.coe_add, Ideal.log_coe,
    if_neg (not_le.mpr (by positivity)), ← EReal.coe_zero, ← coe_max, ← EReal.coe_add]
  rfl

theorem spn_neg (y : ℝ) : spn (-y) = spn y - y := by
  unfold spn
  rw [abs_neg]
  have : max (-y) 0 = max y 0 - y := by
    rcases le_total y 0 with h | h
    · rw [max_eq_left (by linarith), max_eq_right h]; ring
    · rw [max_eq_right (by linarith), max_eq_left h]; ring
  rw [this]; ring

theorem select_sgt {α : Type} (T g : Fin 4096) (a b : α) :
    Scalar.select (IntOp.cmpi .sgt (BitVec.ofNat 32 T.val) (BitVec.ofNat 32 g.val)) a b = if g.val < T.val then a else b := by
  have hT := T.isLt
  have hg := g.isLt
  rw [WordCmp.cmpi_sgt_ofNat (by omega) (by omega)]
  by_cases h : g.val < T.val <;> simp [h, Scalar.select]

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

theorem fold_sum (W : Shape) (G : W.Idx → EReal) :
    (List.finRange W.numel).foldl (fun r n => r + G (W.rowMajor.symm n)) 0 = ∑ w : W.Idx, G w := by
  rw [foldl_add, zero_add, ← List.ofFn_eq_map, List.sum_ofFn]
  exact Equiv.sum_comp W.rowMajor.symm G

theorem window_sum {s t : Shape} (window strides lo hi : Fin s.rank → ℕ) (h : s.ReduceWindows window strides lo hi t) (x : s.Idx → EReal) (j : t.Idx) :
    Ideal.hostReduceWindowAdd window strides lo hi h x 0 j = ∑ w : (⟨s.rank, window⟩ : Shape).Idx,
      if hin : ∀ a, lo a ≤ (j (a.cast h.1.symm)).val * strides a + (w a).val
          ∧ (j (a.cast h.1.symm)).val * strides a + (w a).val - lo a < s.size a then
        x (fun a => ⟨(j (a.cast h.1.symm)).val * strides a + (w a).val - lo a, (hin a).2⟩) else 0 := by
  unfold Ideal.hostReduceWindowAdd Host.reduceWindow
  refine Eq.trans ?_ (fold_sum ⟨s.rank, window⟩ (fun w => if hin : ∀ a, lo a ≤ (j (a.cast h.1.symm)).val * strides a + (w a).val
          ∧ (j (a.cast h.1.symm)).val * strides a + (w a).val - lo a < s.size a then
        x (fun a => ⟨(j (a.cast h.1.symm)).val * strides a + (w a).val - lo a, (hin a).2⟩) else 0))
  dsimp only
  refine congrFun (congrFun (congrArg List.foldl (funext fun r => funext fun n => congrArg (r + ·) ?_)) _) _
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

/-- A window that reaches to the end sums what is left of the row. -/
theorem win_apply (x : FVec Ideal S8x8x4096x4096 .f32) (init : FVec Ideal S_ .f32) (h0 : ∀ i, init i = 0) (b h : Fin 8) (T g : Fin 4096) :
    Host.reduceWindowAdd ![1, 1, 1, 4096] ![1, 1, 1, 1] ![0, 0, 0, 0] ![0, 0, 0, 4095] x init reduceWindows_S8x8x4096x4096_S8x8x4096x4096_w1s1p0_0_w1s1p0_0_w1s1p0_0_w4096s1p0_4095 h_S_ (ix4 b h T g)
      = ∑ k : Fin 4096, if hk : g.val + k.val < 4096 then x (ix4 b h T ⟨g.val + k.val, hk⟩) else 0 := by
  unfold Host.reduceWindowAdd
  rw [h0, Ideal.hostReduceWindowAdd_def, window_sum]
  refine (sum_idx4 (n0 := 1) (n1 := 1) (n2 := 1) (n3 := 4096) _).trans ?_
  rw [Fin.sum_univ_one, Fin.sum_univ_one, Fin.sum_univ_one]
  refine Finset.sum_congr rfl fun k _ => ?_
  have hb := b.isLt
  have hh := h.isLt
  have hT := T.isLt
  by_cases hk : g.val + k.val < 4096
  · rw [dif_pos hk, dif_pos]
    · refine congrArg x (funext fun a => Fin.ext ?_)
      match a with
      | ⟨0, _⟩ => show b.val * 1 + 0 - 0 = b.val; omega
      | ⟨1, _⟩ => show h.val * 1 + 0 - 0 = h.val; omega
      | ⟨2, _⟩ => show T.val * 1 + 0 - 0 = T.val; omega
      | ⟨3, _⟩ => show g.val * 1 + k.val - 0 = g.val + k.val; omega
    · intro a
      match a with
      | ⟨0, _⟩ => show 0 ≤ b.val * 1 + 0 ∧ b.val * 1 + 0 - 0 < 8; omega
      | ⟨1, _⟩ => show 0 ≤ h.val * 1 + 0 ∧ h.val * 1 + 0 - 0 < 8; omega
      | ⟨2, _⟩ => show 0 ≤ T.val * 1 + 0 ∧ T.val * 1 + 0 - 0 < 4096; omega
      | ⟨3, _⟩ => show 0 ≤ g.val * 1 + k.val ∧ g.val * 1 + k.val - 0 < 4096; omega
  · rw [dif_neg hk, dif_neg]
    intro hin
    have h3 : g.val * 1 + k.val - 0 < 4096 := (hin 3).2
    omega

theorem tail_sum (f : ℕ → ℝ) (g : ℕ) :
    ∑ k : Fin 4096, (if g + k.val < 4096 then ((f (g + k.val) : ℝ) : EReal) else 0) = ((∑ i ∈ Ico g 4096, f i : ℝ) : EReal) := by
  have e : ∀ k : Fin 4096, (if g + k.val < 4096 then ((f (g + k.val) : ℝ) : EReal) else 0) = (((if g + k.val < 4096 then f (g + k.val) else 0) : ℝ) : EReal) := by
    intro k
    split_ifs <;> simp
  rw [Finset.sum_congr rfl fun k _ => e k, ← coe_sum, Fin.sum_univ_eq_sum_range (fun k => if g + k < 4096 then f (g + k) else 0) 4096,
    ← Finset.sum_filter, Finset.sum_Ico_eq_sum_range]
  congr 2
  ext k
  simp only [Finset.mem_filter, Finset.mem_range]
  omega

section
variable (x0 x1 x2 x3 : Vec Ideal S8x4096x512 .f32) (q k : S8x4096x512.Idx → ℝ) (hq : ∀ i, x0 i = (q i : EReal)) (hk : ∀ i, x1 i = (k i : EReal))
include hq hk

theorem z_apply (b h : Fin 8) (T g : Fin 4096) :
    val_main_v5 (F := Ideal) x0 x1 (ix4 b h T g) = (zr q k b h T g.val : EReal) := by
  pointwise [val_main_v5, val_main_v3, val_main_v0, val_main_v1, val_main_v4, val_main_cst]
  rw [eighth]
  unfold zr
  rw [EReal.coe_mul, coe_sum]
  refine congrArg (· * _) (Finset.sum_congr rfl fun d _ => ?_)
  rw [hq, hk, EReal.coe_mul]
  have e : (⟨min g.val 4095, by omega⟩ : Fin 4096) = g := Fin.ext (by have := g.isLt; show min g.val 4095 = g.val; omega)
  rw [e]

theorem ls_apply (b h : Fin 8) (T g : Fin 4096) :
    val_main_v14 (F := Ideal) x0 x1 (ix4 b h T g) = ((-spn (zr q k b h T g.val) : ℝ) : EReal) := by
  pointwise [val_main_v14, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v13]
  rw [z_apply x0 x1 q k hq hk, neg_neg, spn_chain, EReal.coe_neg]

theorem ls2_apply (b h : Fin 8) (T g : Fin 4096) :
    val_main_v18 (F := Ideal) x0 x1 (ix4 b h T g) = ((-spn (-zr q k b h T g.val) : ℝ) : EReal) := by
  pointwise [val_main_v18, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [z_apply x0 x1 q k hq hk, ← EReal.coe_neg, spn_chain, EReal.coe_neg]

theorem lm_apply (b h : Fin 8) (T g : Fin 4096) :
    val_main_v15 (F := Ideal) x0 x1 (ix4 b h T g) = ((-softn (zr q k b h T) T.val g.val : ℝ) : EReal) := by
  pointwise [val_main_v15, val_main_call1_v1, val_main_call1_v2, val_main_call1_v0, val_main_cst_0, val_main_v12, val_main_v11, val_main_v10, val_main_v9, val_main_v8, val_main_v7, val_main_v6]
  rw [select_sgt, ls_apply x0 x1 q k hq hk, show id (constant (F := Ideal) S_ FTy.f32 0#32) ix0 = 0 from Ideal.ofBits_zero_f32]
  unfold softn
  split_ifs <;> simp

theorem cs_apply (b h : Fin 8) (T g : Fin 4096) :
    val_main_v16 (F := Ideal) x0 x1 (ix4 b h T g) = ((∑ i ∈ Ico g.val 4096, -softn (zr q k b h T) T.val i : ℝ) : EReal) := by
  unfold val_main_v16
  rw [win_apply _ _ (fun i => by pointwise [val_main_call2_v0, val_main_call2_cst]), ← tail_sum]
  refine Finset.sum_congr rfl fun j _ => ?_
  split_ifs with hj
  · exact lm_apply x0 x1 q k hq hk b h T ⟨g.val + j.val, hj⟩
  · rfl

theorem a_apply (b h : Fin 8) (T g : Fin 4096) :
    val_main_v21 (F := Ideal) x0 x1 (ix4 b h T g) = (aw (zr q k b h T) T.val g.val : EReal) := by
  pointwise [val_main_v21, val_main_call4_v1, val_main_call4_v2, val_main_call4_v0, val_main_cst_1, val_main_v12, val_main_v11, val_main_v10, val_main_v9, val_main_v8, val_main_v7, val_main_v6, val_main_v20, val_main_v19, val_main_v17]
  rw [select_sgt, ls2_apply x0 x1 q k hq hk, lm_apply x0 x1 q k hq hk, cs_apply x0 x1 q k hq hk, show id (constant (F := Ideal) S_ FTy.f32 0#32) ix0 = 0 from Ideal.ofBits_zero_f32,
    ← EReal.coe_sub, ← EReal.coe_add, Ideal.exp_coe]
  unfold aw
  split_ifs with hg
  · congr 2
    rw [Finset.sum_neg_distrib, spn_neg, show softn (zr q k b h T) T.val g.val = spn (zr q k b h T g.val) from if_pos hg]
    ring
  · rfl

/-- The reference at an index: the weighted sum of the values, gated. -/
theorem out_apply (b : Fin 8) (T : Fin 4096) (c : Fin 512) :
    val_main_v27 (F := Ideal) x0 x1 x2 x3 (ix3 b T c)
      = (∑ g ∈ Finset.range 4096, x2 (ix3 b ⟨min g 4095, by omega⟩ c) * (aw (zr q k b ⟨c.val / 64, by omega⟩ T) T.val g : EReal))
        * (x3 (ix3 b T c) * Ideal.logistic (x3 (ix3 b T c))) := by
  pointwise [val_main_v27, val_main_v26, val_main_v25, val_main_v24, val_main_v23, val_main_v22, val_main_v2, val_main_call5_v5, val_main_call5_v4, val_main_call5_v3, val_main_call5_v2, val_main_call5_v1, val_main_call5_v0, val_main_call5_cst, val_main_call5_cst_0]
  refine congrArg (· * _) ?_
  rw [← Fin.sum_univ_eq_sum_range (fun g => x2 (ix3 b ⟨min g 4095, by omega⟩ c) * (aw (zr q k b ⟨c.val / 64, by omega⟩ T) T.val g : EReal)) 4096]
  refine Finset.sum_congr rfl fun g _ => ?_
  have e : (⟨min g.val 4095, by omega⟩ : Fin 4096) = g := Fin.ext (by have := g.isLt; show min g.val 4095 = g.val; omega)
  rw [a_apply x0 x1 q k hq hk, e]
end

end Cert.ReferenceIdeal.Sb
end
-- ==== Proof.Match.lean ====
/- Hand-written, untrusted: the two weights are the same real numbers. The kernel counts the softplus sums in base two and
   up to the end of the query block's keys, the reference in base e and up to the last key. -/
module

public import proofs.«01_k».proof.Proof.Fold
public import proofs.«01_k».proof.Proof.Ref

@[expose] public section

noncomputable section

namespace Cert.Match

open Idealize.ShloMosaic Cert.KernelIdeal.Sb Cert.ReferenceIdeal.Sb Finset

theorem log2_pos : 0 < Real.log 2 := Real.log_pos (by norm_num)

theorem two_rpow (y : ℝ) : (2 : ℝ) ^ (y * (Real.log 2)⁻¹) = Real.exp y := by
  rw [Real.rpow_def_of_pos (by norm_num)]
  congr 1
  field_simp [log2_pos.ne']

theorem sp2_scale (y : ℝ) : sp2 (y * (Real.log 2)⁻¹) = spn y * (Real.log 2)⁻¹ := by
  have hc : 0 < (Real.log 2)⁻¹ := inv_pos.mpr log2_pos
  unfold sp2 spn
  rw [abs_mul, abs_of_pos hc, ← neg_mul, two_rpow, add_mul, max_mul_of_nonneg _ _ hc.le, zero_mul]

theorem soft_scale (z : ℕ → ℝ) (T g : ℕ) :
    soft (fun g => z g * (Real.log 2)⁻¹) T g = softn z T g * (Real.log 2)⁻¹ := by
  unfold soft left softn
  split <;> simp [sp2_scale]

theorem sum_softn (z : ℕ → ℝ) (T N g : ℕ) (hT : T ≤ N) (hN : N ≤ 4096) :
    ∑ i ∈ Ico g N, softn z T i = ∑ i ∈ Ico g 4096, softn z T i := by
  refine sum_subset (Ico_subset_Ico_right hN) fun i hi hn => ?_
  simp only [mem_Ico, not_and, not_lt] at hi hn
  exact if_neg (by have := hn hi.1; omega)

theorem wt_eq (z : ℕ → ℝ) (T N g : ℕ) (hT : T ≤ N) (hN : N ≤ 4096) :
    wt (fun g => z g * (Real.log 2)⁻¹) T N g = aw z T g := by
  unfold wt aw
  split
  · rw [sum_congr rfl fun i _ => soft_scale z T i, ← sum_mul, ← sub_mul, two_rpow, sum_softn z T N g hT hN]
  · rfl

/-- The weighted sum over the keys that the kernel reads is the reference's over all keys. -/
theorem sum_wt (V : ℕ → EReal) (z : ℕ → ℝ) (T N : ℕ) (hT : T ≤ N) (hN : N ≤ 4096) :
    ∑ g ∈ Ico 0 N, V g * (wt (fun g => z g * (Real.log 2)⁻¹) T N g : EReal)
      = ∑ g ∈ range 4096, V g * (aw z T g : EReal) := by
  rw [← range_eq_Ico, sum_congr rfl fun g _ => by rw [wt_eq z T N g hT hN]]
  refine sum_subset (range_subset_range.mpr hN) fun i hi hn => ?_
  simp only [mem_range, not_lt] at hi hn
  rw [aw, if_neg (by omega), EReal.coe_zero, mul_zero]

end Cert.Match

end
-- ==== Proof.Ends.lean ====
/- Hand-written, untrusted: the body's first and last payloads at an index. The first makes, of one block of queries, the two
   heads' scaled and transposed queries side by side, each with the other head's lanes zero; the last lays the two heads'
   outputs together again and multiplies by the gate. -/
module

public import proofs.«01_k».proof.Proof.Step
public import Idealize.ShloMosaic.Lib.WordCmp

@[expose] public section

set_option maxRecDepth 16384

noncomputable section

namespace Cert.KernelIdeal.Sb

open Cert.KernelIdeal Cert.KernelIdeal.Gen Idealize.ShloMosaic Idealize.ShloMosaic.TcCoe

theorem pay44_lo (x0 : Vec Ideal S1x512x128 .bf16) (k : Fin 128) (t : Fin 512) :
    (k0_pay44 x0 (ix2 k ⟨t.val, by omega⟩) : EReal)
      = if k.val / 64 = 0 then (x0 (ix3 0 t k) : EReal) * (((1 / 8) * (Real.log 2)⁻¹ : ℝ) : EReal) else 0 := by
  pointwise [k0_pay44]
  rw [WordCmp.cmpi_slt_ofNat (by omega) (by omega)]
  rcases Nat.lt_or_ge k.val 64 with h | h
  · rw [if_pos (by omega), decide_eq_true h]; rfl
  · rw [if_neg (by omega), decide_eq_false (by omega)]; rfl

theorem pay44_hi (x0 : Vec Ideal S1x512x128 .bf16) (k : Fin 128) (t : Fin 512) :
    (k0_pay44 x0 (ix2 k ⟨512 + t.val, by omega⟩) : EReal)
      = if k.val / 64 = 1 then (x0 (ix3 0 t k) : EReal) * (((1 / 8) * (Real.log 2)⁻¹ : ℝ) : EReal) else 0 := by
  pointwise [k0_pay44]
  rw [WordCmp.cmpi_slt_ofNat (by omega) (by omega)]
  rcases Nat.lt_or_ge k.val 64 with h | h
  · rw [if_neg (by omega), decide_eq_true h]; rfl
  · rw [if_pos (by omega), decide_eq_false (by omega)]; rfl

theorem pay1_lo (a0 a1 : FVec Ideal S64x512 .f32) (g : Vec Ideal S1x512x128 .bf16) (t : Fin 512) (d : Fin 64) (y : Fin 128) (hy : y.val = d.val) :
    (k0_pay1 a0 a1 g (ix3 0 t y) : EReal)
      = (a0 (ix2 d t) : EReal) * ((g (ix3 0 t y) : EReal) * Ideal.logistic (g (ix3 0 t y))) := by
  rw [show y = ⟨d.val, by omega⟩ from Fin.ext hy]
  pointwise [k0_pay1]

theorem pay1_hi (a0 a1 : FVec Ideal S64x512 .f32) (g : Vec Ideal S1x512x128 .bf16) (t : Fin 512) (d : Fin 64) (y : Fin 128) (hy : y.val = 64 + d.val) :
    (k0_pay1 a0 a1 g (ix3 0 t y) : EReal)
      = (a1 (ix2 d t) : EReal) * ((g (ix3 0 t y) : EReal) * Ideal.logistic (g (ix3 0 t y))) := by
  rw [show y = ⟨64 + d.val, by omega⟩ from Fin.ext hy]
  pointwise [k0_pay1]

end Cert.KernelIdeal.Sb

end
-- ==== Proof.Elem.lean ====
/- Hand-written, untrusted: one element of the output block is the reference's element, from the blocks' elements. -/
module

public import proofs.«01_k».proof.Proof.Match
public import proofs.«01_k».proof.Proof.Ends

@[expose] public section

set_option maxRecDepth 16384

noncomputable section

namespace Cert.KernelIdeal.Sb

open Cert.KernelIdeal Cert.KernelIdeal.Gen Idealize.ShloMosaic Idealize.ShloMosaic.TcCoe
open Cert.ReferenceIdeal.Sb (zr aw)

/-- A sum over a pair's lanes where one head's count: the other head's lanes are zero. -/
theorem half_sum (hf : Fin 2) (f g : Fin 128 → ℝ) (c : ℝ) :
    ∑ k : Fin 128, (f k : EReal) * (if k.val / 64 = hf.val then (g k : EReal) * (c : EReal) else 0)
      = ((∑ d : Fin 64, g ⟨64 * hf.val + d.val, by omega⟩ * f ⟨64 * hf.val + d.val, by omega⟩) * c : ℝ) := by
  have e : ∀ k : Fin 128, (f k : EReal) * (if k.val / 64 = hf.val then (g k : EReal) * (c : EReal) else 0)
      = ((if k.val / 64 = hf.val then g k * f k * c else 0 : ℝ) : EReal) := by
    intro k
    split
    · rw [← EReal.coe_mul, ← EReal.coe_mul]; congr 1; ring
    · rw [mul_zero, EReal.coe_zero]
  rw [Finset.sum_congr rfl fun k _ => e k, ← Cert.Reals.coe_sum, Finset.sum_mul]
  congr 1
  rw [Fin.sum_univ_add (a := 64) (b := 64)]
  have hlo : ∀ d : Fin 64, (Fin.castAdd 64 d : Fin 128).val / 64 = 0 := fun d => by
    show d.val / 64 = 0; omega
  have hhi : ∀ d : Fin 64, (Fin.natAdd 64 d : Fin 128).val / 64 = 1 := fun d => by
    show (64 + d.val) / 64 = 1; omega
  have hh : hf.val = 0 ∨ hf.val = 1 := by omega
  rcases hh with h | h
  · rw [Finset.sum_congr rfl fun d _ => if_pos ((hlo d).trans h.symm),
      Finset.sum_congr rfl fun d _ => if_neg (by rw [hhi d, h]; decide), Finset.sum_const_zero, add_zero]
    refine Finset.sum_congr rfl fun d _ => ?_
    have : (Fin.castAdd 64 d : Fin 128) = ⟨64 * hf.val + d.val, by omega⟩ := Fin.ext (by show d.val = _; simp only []; omega)
    rw [this]
  · rw [Finset.sum_congr rfl fun d _ => if_neg (by rw [hlo d, h]; decide),
      Finset.sum_congr rfl fun d _ => if_pos ((hhi d).trans h.symm), Finset.sum_const_zero, zero_add]
    refine Finset.sum_congr rfl fun d _ => ?_
    have : (Fin.natAdd 64 d : Fin 128) = ⟨64 * hf.val + d.val, by omega⟩ := Fin.ext (by show 64 + d.val = _; simp only []; omega)
    rw [this]

variable (i : grid0.Coords) (x0 : Vec Ideal S1x512x128 .bf16) (x1 : Vec Ideal S1x4096x128 .bf16) (x2 : Vec Ideal S1x1x16x128x256 .bf16)
  (x3 : Vec Ideal S1x512x128 .bf16) (x4 : Vec Ideal S128x256 .bf16) (a0 a1 a2 a3 : Vec Ideal Cert.ReferenceIdeal.S8x4096x512 .f32)
  (q k : Cert.ReferenceIdeal.S8x4096x512.Idx → ℝ) (b : Fin 8) (p : Fin 4) (qi : Fin 8)

theorem pay44_at (hf : Fin 2) (t : Fin 512) (d : Fin 128) :
    (k0_pay44 x0 (ix2 d ⟨512 * hf.val + t.val, by omega⟩) : EReal)
      = if d.val / 64 = hf.val then (x0 (ix3 0 t d) : EReal) * (((1 / 8) * (Real.log 2)⁻¹ : ℝ) : EReal) else 0 := by
  have hh : hf = 0 ∨ hf = 1 := by omega
  rcases hh with rfl | rfl
  · have e : (⟨512 * (0 : Fin 2).val + t.val, by omega⟩ : Fin 1024) = ⟨t.val, by omega⟩ := Fin.ext (by show 512 * 0 + t.val = t.val; omega)
    rw [e]; exact pay44_lo x0 d t
  · have e : (⟨512 * (1 : Fin 2).val + t.val, by omega⟩ : Fin 1024) = ⟨512 + t.val, by omega⟩ := Fin.ext (by show 512 * 1 + t.val = 512 + t.val; omega)
    rw [e]; exact pay44_hi x0 d t

theorem elem (hi : (i 2).val = qi.val) (hq : ∀ j, a0 j = (q j : EReal)) (hk : ∀ j, a1 j = (k j : EReal))
    (h0 : ∀ (t : Fin 512) (d : Fin 128), (x0 (ix3 0 t d) : EReal) = q (ix3 b ⟨512 * qi.val + t.val, by omega⟩ ⟨128 * p.val + d.val, by omega⟩))
    (h1 : ∀ (g : Fin 4096) (d : Fin 128), (x1 (ix3 0 g d) : EReal) = k (ix3 b g ⟨128 * p.val + d.val, by omega⟩))
    (h2 : ∀ (ch : Fin 16) (d : Fin 128) (j : Fin 256), (x2 (ix5 0 0 ch d j) : EReal) = a2 (ix3 b ⟨256 * ch.val + j.val, by omega⟩ ⟨128 * p.val + d.val, by omega⟩))
    (h3 : ∀ (t : Fin 512) (d : Fin 128), (x3 (ix3 0 t d) : EReal) = a3 (ix3 b ⟨512 * qi.val + t.val, by omega⟩ ⟨128 * p.val + d.val, by omega⟩))
    (h4 : IsSfx x4) (t : Fin 512) (y : Fin 128) :
    (k0_pay1 (allc i (k0_pay44 x0) x1 x2 x4).2.1 (allc i (k0_pay44 x0) x1 x2 x4).2.2 x3 (ix3 0 t y) : EReal)
      = Cert.ReferenceIdeal.Read.val_main_v27 (F := Ideal) a0 a1 a2 a3 (ix3 b ⟨512 * qi.val + t.val, by omega⟩ ⟨128 * p.val + y.val, by omega⟩) := by
  rw [Cert.ReferenceIdeal.Sb.out_apply a0 a1 a2 a3 q k hq hk]
  have inv : ∀ hf : Fin 2, _ := fun hf : Fin 2 => inv_allc i (k0_pay44 x0) x1 x2 x4 h4
    (fun g => zr q k b ⟨2 * p.val + hf.val, by omega⟩ ⟨512 * qi.val + t.val, by omega⟩ g * (Real.log 2)⁻¹)
    (fun d g => a2 (ix3 b ⟨min g 4095, by omega⟩ ⟨128 * p.val + d.val, by omega⟩)) hf t
    (by
      intro ch hch j
      rw [lg_apply]
      refine (Finset.sum_congr rfl (g := fun d : Fin 128 => (k (ix3 b ⟨min (256 * ch + j.val) 4095, by omega⟩ ⟨128 * p.val + d.val, by omega⟩) : EReal)
          * (if d.val / 64 = hf.val then (q (ix3 b ⟨512 * qi.val + t.val, by omega⟩ ⟨128 * p.val + d.val, by omega⟩) : EReal) * (((1 / 8) * (Real.log 2)⁻¹ : ℝ) : EReal) else 0))
        fun d _ => by rw [pay44_at, h0 t d, ← h1]; rfl).trans ?_
      rw [half_sum hf (fun d => k (ix3 b ⟨min (256 * ch + j.val) 4095, by omega⟩ ⟨128 * p.val + d.val, by omega⟩)) (fun d => q (ix3 b ⟨512 * qi.val + t.val, by omega⟩ ⟨128 * p.val + d.val, by omega⟩))]
      unfold zr
      rw [mul_assoc]
      congr 2
      refine Finset.sum_congr rfl fun d _ => ?_
      have e : (⟨128 * p.val + (64 * hf.val + d.val), by omega⟩ : Fin 512) = ⟨(2 * p.val + hf.val) * 64 + d.val, by omega⟩ := Fin.ext (by show 128 * p.val + (64 * hf.val + d.val) = (2 * p.val + hf.val) * 64 + d.val; omega)
      simp only [e])
    (by
      intro ch hch d j
      show x2 (ix5 0 0 ⟨min ch 15, by omega⟩ d j) = _
      rw [h2]
      congr 2
      exact Fin.ext (by show 256 * min ch 15 + j.val = min (256 * ch + j.val) 4095; omega))
  rw [hi] at inv
  rcases Nat.lt_or_ge y.val 64 with hy | hy
  · have o := (inv 0).out0 rfl ⟨y.val, hy⟩
    rw [pay1_lo _ _ x3 t ⟨y.val, hy⟩ y rfl, o, h3, Cert.Match.sum_wt _ _ _ _ (by omega) (by omega)]
    have e : (⟨2 * p.val + (0 : Fin 2).val, by omega⟩ : Fin 8) = ⟨(128 * p.val + y.val) / 64, by omega⟩ := Fin.ext (by show 2 * p.val + 0 = (128 * p.val + y.val) / 64; omega)
    rw [e]
  · have o := (inv 1).out1 rfl ⟨y.val - 64, by omega⟩
    rw [pay1_hi _ _ x3 t ⟨y.val - 64, by omega⟩ y (by show y.val = 64 + (y.val - 64); omega), o, h3, Cert.Match.sum_wt _ _ _ _ (by omega) (by omega)]
    have e : (⟨2 * p.val + (1 : Fin 2).val, by omega⟩ : Fin 8) = ⟨(128 * p.val + y.val) / 64, by omega⟩ := Fin.ext (by show 2 * p.val + 1 = (128 * p.val + y.val) / 64; omega)
    have e' : (⟨128 * p.val + (64 + (y.val - 64)), by omega⟩ : Fin 512) = ⟨128 * p.val + y.val, by omega⟩ := Fin.ext (by show 128 * p.val + (64 + (y.val - 64)) = 128 * p.val + y.val; omega)
    rw [e, e']

end Cert.KernelIdeal.Sb

end
-- ==== Proof.Blocks.lean ====
/- Hand-written, untrusted: what the operations before the call leave in its operands, read at an index. -/
module

public import proofs.«01_k».proof.Proof.Step
public import Idealize.ShloMosaic.Lib.StableHlo.ReadAt
public import Idealize.ShloMosaic.Lib.WordCmp

@[expose] public section

set_option maxRecDepth 16384

noncomputable section

namespace Cert.KernelIdeal.Sb

open Cert.KernelIdeal Cert.KernelIdeal.Gen Idealize.ShloMosaic Idealize.ShloMosaic.TcCoe Idealize.SL.Sem

variable (m : (ℓ : Loc nD τ sig) → Buf (Elt Ideal) ℓ)

theorem zm_q (c : Dev nD) (b : Fin 8) (T : Fin 4096) (x : Fin 512) (y : Fin 8704) (hy : y.val = 6656 + x.val) :
    (V m c main_v5 (ix3 b T y) : EReal) = m ((c : Thread nD τ).loc main_arg0) (ix3 b T x) := by
  rw [show y = ⟨6656 + x.val, by omega⟩ from Fin.ext hy]
  unfold V
  after_reads_at
  after_results_simp
  pointwise
  after_reads_simp

theorem zm_k (c : Dev nD) (b : Fin 8) (T : Fin 4096) (x : Fin 512) (y : Fin 8704) (hy : y.val = 7168 + x.val) :
    (V m c main_v5 (ix3 b T y) : EReal) = m ((c : Thread nD τ).loc main_arg1) (ix3 b T x) := by
  rw [show y = ⟨7168 + x.val, by omega⟩ from Fin.ext hy]
  unfold V
  after_reads_at
  rw [dif_neg (by omega), dif_neg (by omega), dif_pos (by omega)]
  after_results_simp
  pointwise
  after_reads_simp
  exact congrArg (fun z : Fin 512 => m ((c : Thread nD τ).loc main_arg1) (ix3 b T z)) (Fin.ext (by show 7168 + x.val - 6656 - 512 = x.val; omega))

theorem zm_g (c : Dev nD) (b : Fin 8) (T : Fin 4096) (x : Fin 512) (y : Fin 8704) (hy : y.val = 8192 + x.val) :
    (V m c main_v5 (ix3 b T y) : EReal) = m ((c : Thread nD τ).loc main_arg3) (ix3 b T x) := by
  rw [show y = ⟨8192 + x.val, by omega⟩ from Fin.ext hy]
  unfold V
  after_reads_at
  rw [dif_neg (by omega), dif_neg (by omega), dif_neg (by omega), dif_neg (by omega)]
  after_results_simp
  pointwise
  after_reads_simp
  exact congrArg (fun z : Fin 512 => m ((c : Thread nD τ).loc main_arg3) (ix3 b T z)) (Fin.ext (by show 8192 + x.val - 6656 - 512 - 512 - 512 = x.val; omega))

theorem vt_v (c : Dev nD) (b : Fin 8) (p : Fin 4) (ch : Fin 16) (d : Fin 128) (j : Fin 256) :
    (V m c main_v8 (ix5 b p ch d j) : EReal) = m ((c : Thread nD τ).loc main_arg2)
      (ix3 b ⟨ch.val * 256 + j.val, by omega⟩ ⟨p.val * 128 + d.val, by omega⟩) := by
  unfold V
  after_reads_at

theorem rem_word : ∀ k : Fin 256,
    (let d : BitVec 32 := Scalar.select (IntOp.cmpi CmpIPredicate.eq (id (constantI S_ 32 128#32) ix0) 0#32) (1#32) (id (constantI S_ 32 128#32) ix0)
     let r : BitVec 32 := IntOp.remsi ArithUnit.host (BitVec.ofNat 32 k.val) d
     Scalar.select (IntOp.andi (IntOp.cmpi CmpIPredicate.ne (IntOp.cmpi CmpIPredicate.slt r 0#32) (IntOp.cmpi CmpIPredicate.slt d 0#32))
        (IntOp.cmpi CmpIPredicate.ne r 0#32)) (IntOp.addi r d) r)
      = BitVec.ofNat 32 (k.val % 128) := by
  decide +kernel

theorem sfx_s (c : Dev nD) : IsSfx (V m c main_v17) := by
  intro r k
  unfold V
  after_reads_at
  have h := rem_word k
  simp only at h
  rw [h, WordCmp.cmpi_sge_ofNat (by omega) (by omega)]
  show (((BitVec.ofBool (decide (r.val ≤ k.val % 128))).toNat : ℝ) : EReal) = _
  by_cases hr : r.val ≤ k.val % 128 <;> simp [hr]

end Cert.KernelIdeal.Sb

end
-- ==== Proof.Result.lean ====
/- Hand-written, untrusted: the result array of the run is the reference's, for finite queries and keys. -/
module

public import proofs.«01_k».proof.Proof.Elem
public import proofs.«01_k».proof.Proof.Blocks
public import proofs.«01_k».proof.Proof.Body
public import proofs.«01_k».proof.Proof.Gen.KernelIdeal.Value
public import Idealize.ShloMosaic.Lib.Pipeline.ValueKit.Geometry

@[expose] public section

set_option maxRecDepth 16384

noncomputable section

namespace Cert.KernelIdeal.Sb

open Cert.KernelIdeal Cert.KernelIdeal.Gen Cert.KernelIdeal.Value Idealize.ShloMosaic Idealize.ShloMosaic.TcCoe Idealize.SL.Sem Idealize.ShloMosaic.Pointwise

variable (m : (ℓ : Loc nD τ sig) → Buf (Elt Ideal) ℓ)

theorem ind0 : ∀ t : Fin cfg0.N, win0_0.index t = ![(grid0.coords t 0).val, (grid0.coords t 2).val, 52 + (grid0.coords t 1).val] :=
  (by decide +kernel : ∀ t : Fin grid0.N, _)
theorem ind1 : ∀ t : Fin cfg0.N, win0_1.index t = ![(grid0.coords t 0).val, 0, 56 + (grid0.coords t 1).val] :=
  (by decide +kernel : ∀ t : Fin grid0.N, _)
theorem ind2 : ∀ t : Fin cfg0.N, win0_2.index t = ![(grid0.coords t 0).val, (grid0.coords t 1).val, 0, 0, 0] :=
  (by decide +kernel : ∀ t : Fin grid0.N, _)
theorem ind3 : ∀ t : Fin cfg0.N, win0_3.index t = ![(grid0.coords t 0).val, (grid0.coords t 2).val, 64 + (grid0.coords t 1).val] :=
  (by decide +kernel : ∀ t : Fin grid0.N, _)
theorem ind4 : ∀ t : Fin cfg0.N, win0_4.index t = ![0, 0] :=
  (by decide +kernel : ∀ t : Fin grid0.N, _)
theorem ind5 : ∀ t : Fin cfg0.N, win0_5.index t = ![(grid0.coords t 0).val, (grid0.coords t 2).val, (grid0.coords t 1).val] :=
  (by decide +kernel : ∀ t : Fin grid0.N, _)

/-- A grid point's batch, pair of heads and block of queries. -/
abbrev pb (t : Fin cfg0.N) : Fin 8 := grid0.coords t 0
abbrev pp (t : Fin cfg0.N) : Fin 4 := grid0.coords t 1
abbrev pq (t : Fin cfg0.N) : Fin 8 := grid0.coords t 2

theorem iblk0_at (c : Dev nD) (t : Fin cfg0.N) (r : Fin 512) (d : Fin 128) :
    (iblk m c 0 t (ix3 0 r d) : EReal) = m ((c : Thread nD τ).loc main_arg0)
      (ix3 (pb t) ⟨512 * (pq t).val + r.val, by omega⟩ ⟨128 * (pp t).val + d.val, by omega⟩) := by
  rw [← zm_q m c (pb t) ⟨512 * (pq t).val + r.val, by omega⟩ ⟨128 * (pp t).val + d.val, by omega⟩
    ⟨6656 + (128 * (pp t).val + d.val), by omega⟩ rfl]
  blk_ext [ind0, iblk]
  all_goals (dsimp only [pb, pp, pq]; omega)

theorem iblk1_at (c : Dev nD) (t : Fin cfg0.N) (g : Fin 4096) (d : Fin 128) :
    (iblk m c 1 t (ix3 0 g d) : EReal) = m ((c : Thread nD τ).loc main_arg1)
      (ix3 (pb t) g ⟨128 * (pp t).val + d.val, by omega⟩) := by
  rw [← zm_k m c (pb t) g ⟨128 * (pp t).val + d.val, by omega⟩
    ⟨7168 + (128 * (pp t).val + d.val), by omega⟩ rfl]
  blk_ext [ind1, iblk]
  all_goals (dsimp only [pb, pp, pq]; omega)

theorem iblk2_at (c : Dev nD) (t : Fin cfg0.N) (ch : Fin 16) (d : Fin 128) (j : Fin 256) :
    (iblk m c 2 t (ix5 0 0 ch d j) : EReal) = m ((c : Thread nD τ).loc main_arg2)
      (ix3 (pb t) ⟨256 * ch.val + j.val, by omega⟩ ⟨128 * (pp t).val + d.val, by omega⟩) := by
  have e : (⟨256 * ch.val + j.val, by omega⟩ : Fin 4096) = ⟨ch.val * 256 + j.val, by omega⟩ := Fin.ext (by show 256 * ch.val + j.val = ch.val * 256 + j.val; omega)
  have e' : (⟨128 * (pp t).val + d.val, by omega⟩ : Fin 512) = ⟨(pp t).val * 128 + d.val, by omega⟩ := Fin.ext (by show 128 * (pp t).val + d.val = (pp t).val * 128 + d.val; omega)
  rw [e, e', ← vt_v m c (pb t) (pp t) ch d j]
  blk_ext [ind2, iblk]
  all_goals (dsimp only [pb, pp, pq]; omega)

theorem iblk3_at (c : Dev nD) (t : Fin cfg0.N) (r : Fin 512) (d : Fin 128) :
    (iblk m c 3 t (ix3 0 r d) : EReal) = m ((c : Thread nD τ).loc main_arg3)
      (ix3 (pb t) ⟨512 * (pq t).val + r.val, by omega⟩ ⟨128 * (pp t).val + d.val, by omega⟩) := by
  rw [← zm_g m c (pb t) ⟨512 * (pq t).val + r.val, by omega⟩ ⟨128 * (pp t).val + d.val, by omega⟩
    ⟨8192 + (128 * (pp t).val + d.val), by omega⟩ rfl]
  blk_ext [ind3, iblk]
  all_goals (dsimp only [pb, pp, pq]; omega)

theorem iblk4_at (c : Dev nD) (t : Fin cfg0.N) : IsSfx (iblk m c 4 t) := by
  intro r k
  rw [← sfx_s m c r k]
  blk_ext [ind4, iblk]

/-- The reference's result from the kernel's arguments. -/
def G (c : Dev nD) : Vec Ideal S8x4096x512 .bf16 :=
  Cert.ReferenceIdeal.Read.val_main_v27 (F := Ideal) (m ((c : Thread nD τ).loc main_arg0)) (m ((c : Thread nD τ).loc main_arg1))
    (m ((c : Thread nD τ).loc main_arg2)) (m ((c : Thread nD τ).loc main_arg3))

theorem final (c : Dev nD) (q k : Cert.ReferenceIdeal.S8x4096x512.Idx → ℝ)
    (hq : ∀ j, (m ((c : Thread nD τ).loc main_arg0) : Vec Ideal Cert.ReferenceIdeal.S8x4096x512 .f32) j = (q j : EReal)) (hk : ∀ j, (m ((c : Thread nD τ).loc main_arg1) : Vec Ideal Cert.ReferenceIdeal.S8x4096x512 .f32) j = (k j : EReal)) :
    (dats m 0 c).arrAt 5 cfg0.N = G m c := by
  refine (dats m 0 c).arrAt_eq_of_covers 5 _ (by decide +kernel) fun t hf y => ?_
  blk_simp
  idx_vars y
  rw [after0_5]
  unfold outsAt0
  rw [out_eq]
  obtain rfl : y0 = 0 := Subsingleton.elim _ _
  have h := elem (grid0.coords t) (iblk m c 0 t) (iblk m c 1 t) (iblk m c 2 t) (iblk m c 3 t) (iblk m c 4 t)
    (m ((c : Thread nD τ).loc main_arg0)) (m ((c : Thread nD τ).loc main_arg1))
    (m ((c : Thread nD τ).loc main_arg2)) (m ((c : Thread nD τ).loc main_arg3)) q k (pb t) (pp t) (pq t) rfl hq hk
    (fun r d => (iblk0_at m c t r d).trans (hq _)) (fun g d => (iblk1_at m c t g d).trans (hk _)) (iblk2_at m c t) (iblk3_at m c t) (iblk4_at m c t) y1 y2
  refine h.trans ?_
  unfold G
  blk_ext [ind5]
  all_goals (dsimp only [pb, pp, pq]; omega)

end Cert.KernelIdeal.Sb

end
-- ==== Proof.Norm.lean ====
module

public import proofs.«01_k».proof.Proof.Reals

@[expose] public section

/-! A row divided by its root mean square: what it is, and that it is real whatever the row. -/

noncomputable section

namespace Cert.Norm
open Idealize.ShloMosaic

/-- The factor of a row: one over its root mean square, the mean kept away from zero. -/
def fac (h : Fin 1024 → EReal) : EReal :=
  Ideal.rsqrt (Ideal.div (∑ k, h k * h k) (Ideal.ofBits .f32 0x44800000#32) + Ideal.ofBits .f32 0x358637BD#32)

/-- A row divided by its root mean square, times the gain. -/
def nrm (h g : Fin 1024 → EReal) (j : Fin 1024) : EReal := h j * fac h * g j

/-- … scaled and shifted. -/
def row (x g sc sh : Fin 1024 → EReal) (j : Fin 1024) : EReal :=
  nrm x g j * (Ideal.ofBits .f32 0x3F800000#32 + sc j) + sh j

/-- A value that is a real number. -/
def Real' (x : EReal) : Prop := ∃ r : ℝ, x = (r : EReal)

theorem real_mul {x y : EReal} (hx : Real' x) (hy : Real' y) : Real' (x * y) := by
  obtain ⟨a, rfl⟩ := hx; obtain ⟨b, rfl⟩ := hy; exact ⟨a * b, (EReal.coe_mul a b).symm⟩
theorem real_add {x y : EReal} (hx : Real' x) (hy : Real' y) : Real' (x + y) := by
  obtain ⟨a, rfl⟩ := hx; obtain ⟨b, rfl⟩ := hy; exact ⟨a + b, (EReal.coe_add a b).symm⟩

theorem width : Ideal.ofBits FTy.f32 0x44800000#32 = ((1024 : ℝ) : EReal) := by
  simp [Ideal.ofBits, Ideal.ieee, -EReal.coe_mul]
  norm_num

theorem eps_pos : ∃ e : ℝ, 0 < e ∧ Ideal.ofBits FTy.f32 0x358637BD#32 = (e : EReal) := by
  refine ⟨_, ?_, by simp [Ideal.ofBits, Ideal.ieee, -EReal.coe_mul]; rfl⟩
  positivity

theorem one_real : Real' (Ideal.ofBits FTy.f32 0x3F800000#32) := by
  refine ⟨1, ?_⟩
  simp [Ideal.ofBits, Ideal.ieee, -EReal.coe_mul]
  norm_num

theorem sq_nonneg (x : EReal) : 0 ≤ x * x := by
  induction x with
  | bot => simp
  | top => simp
  | coe r => rw [← EReal.coe_mul]; exact EReal.coe_nonneg.mpr (mul_self_nonneg r)

theorem fac_real (h : Fin 1024 → EReal) (j : Fin 1024) : Real' (h j * fac h) := by
  obtain ⟨e, he, hE⟩ := eps_pos
  have h0 : (0 : EReal) ≤ ∑ k, h k * h k := Finset.sum_nonneg fun k _ => sq_nonneg _
  have hj : h j * h j ≤ ∑ k, h k * h k := Finset.single_le_sum (f := fun k => h k * h k) (fun k _ => sq_nonneg _) (Finset.mem_univ j)
  unfold fac
  rw [hE, width]
  generalize (∑ k, h k * h k) = S at h0 hj
  have hn : ((1024 : ℝ) : EReal) ≠ 0 := by norm_cast
  rw [Ideal.div, if_neg hn, ← EReal.coe_inv]
  induction S with
  | bot => simp at h0
  | top =>
    rw [EReal.top_mul_coe_of_pos (by norm_num), EReal.top_add_coe]
    exact ⟨0, by show h j * 0 = _; simp⟩
  | coe s =>
    have hs : 0 ≤ s := EReal.coe_nonneg.mp h0
    have hp : 0 < s * (1024 : ℝ)⁻¹ + e := by positivity
    rw [← EReal.coe_mul, ← EReal.coe_add]
    refine real_mul ?_ ⟨(√(s * (1024 : ℝ)⁻¹ + e))⁻¹, ?_⟩
    · generalize h j = x at hj
      induction x with
      | bot => simp at hj
      | top => simp at hj
      | coe r => exact ⟨r, rfl⟩
    · show (if s * (1024 : ℝ)⁻¹ + e < 0 then (⊥ : EReal) else if s * (1024 : ℝ)⁻¹ + e = 0 then ⊤ else _) = _
      rw [if_neg (not_lt.mpr hp.le), if_neg hp.ne']

theorem row_real (x g sc sh : Fin 1024 → EReal) (hg : ∀ k, Real' (g k)) (hsc : ∀ k, Real' (sc k)) (hsh : ∀ k, Real' (sh k)) (j : Fin 1024) :
    Real' (row x g sc sh j) :=
  real_add (real_mul (real_mul (fac_real x j) (hg j)) (real_add one_real (hsc j))) (hsh j)

/-- A sum of products of reals, all negated in one factor. -/
theorem sum_neg (a b : Fin 1024 → EReal) (ha : ∀ k, Real' (a k)) (hb : ∀ k, Real' (b k)) : (∑ k, a k * -(b k)) = -∑ k, a k * b k := by
  choose u hu using ha
  choose v hv using hb
  have e : ∀ k, a k * -(b k) = ((-(u k * v k) : ℝ) : EReal) := fun k => by rw [hu, hv, ← EReal.coe_neg, ← EReal.coe_mul, mul_neg]
  have e' : ∀ k, a k * b k = ((u k * v k : ℝ) : EReal) := fun k => by rw [hu, hv, ← EReal.coe_mul]
  rw [Finset.sum_congr rfl fun k _ => e k, Finset.sum_congr rfl fun k _ => e' k, ← Cert.Reals.coe_sum, ← Cert.Reals.coe_sum, Finset.sum_neg_distrib, EReal.coe_neg]

end Cert.Norm
end
-- ==== Proof.Columns.lean ====
module

public import proofs.«01_k».proof.Proof.Norm

@[expose] public section

/-! Which column of the input weights each column of the projection reads, and which it reads negated. -/

noncomputable section

namespace Cert.Columns
open Idealize.ShloMosaic

/-- The half-head columns of the rotated queries that are negated. -/
def Flip (y : ℕ) : Prop := 5632 ≤ y ∧ y < 6144 ∧ (y - 5632) % 64 < 32
instance (y : ℕ) : Decidable (Flip y) := inferInstanceAs (Decidable (_ ∧ _ ∧ _))

/-- The source of a column: the merge logits first, then the branches' columns, with the rotated queries among them. -/
def src (y : ℕ) : ℕ :=
  if y < 3072 then y + 5840 else if y < 4608 then y - 3072 else if y < 5632 then y - 3064
  else if y < 6144 then (if (y - 5632) % 64 < 32 then y - 3544 else y - 3608) else y - 2864

theorem src_lt (y : Fin 8704) : src y.val < 8912 := by
  have := y.isLt
  unfold src
  split_ifs <;> omega

/-- A column of the projection from the columns of its source. -/
def col (f : Fin 8912 → EReal) (y : Fin 8704) : EReal :=
  if Flip y.val then -f ⟨src y.val, src_lt y⟩ else f ⟨src y.val, src_lt y⟩

theorem col_keep (f : Fin 8912 → EReal) (y : Fin 8704) (s : ℕ) (hs : s < 8912) (h : ¬Flip y.val) (e : s = src y.val) : f ⟨s, hs⟩ = col f y := by
  unfold col
  rw [if_neg h]
  exact congrArg f (Fin.ext e)

theorem col_flip (f : Fin 8912 → EReal) (y : Fin 8704) (s : ℕ) (hs : s < 8912) (h : Flip y.val) (e : s = src y.val) : -f ⟨s, hs⟩ = col f y := by
  unfold col
  rw [if_pos h]
  exact congrArg (fun z => -f z) (Fin.ext e)

/-- A row times a column: the negated columns leave the sum. -/
theorem sum_col (h : Fin 1024 → EReal) (w : Fin 1024 → Fin 8912 → EReal) (hh : ∀ k, Cert.Norm.Real' (h k)) (hw : ∀ k s, Cert.Norm.Real' (w k s)) (y : Fin 8704) :
    (∑ k, h k * col (w k) y) = col (fun s => ∑ k, h k * w k s) y := by
  unfold col
  split_ifs
  · exact Cert.Norm.sum_neg h (fun k => w k _) hh (fun k => hw k _)
  · rfl

end Cert.Columns
end
-- ==== Proof.ProjBlocks.lean ====
module

public import proofs.«01_k».proof.Proof.Gen.ProjectionIdeal.Value
public import proofs.«01_k».proof.Proof.Columns
public import Idealize.ShloMosaic.Lib.Pipeline.ValueKit.Geometry
public import Idealize.ShloMosaic.Lib.StableHlo.ReadAt
public import Idealize.ShloMosaic.Lib.Pointwise

@[expose] public section

/-! The projection's operands and its blocks of them, read at an index. -/

set_option maxRecDepth 200000

noncomputable section

namespace Cert.ProjectionIdeal.Proj
open Cert.ProjectionIdeal Cert.ProjectionIdeal.Gen Idealize.ShloMosaic Idealize.ShloMosaic.TcCoe Idealize.SL.Sem Idealize.ShloMosaic.Pointwise Cert.Columns

variable (m : (ℓ : Loc nD τ sig) → Buf (Elt Ideal) ℓ)

/-! ## The operands -/

theorem op_x (c : Dev nD) (R : Fin 32768) (k : Fin 1024) :
    (V m c main_v0 (ix2 R k) : EReal) = m ((c : Thread nD τ).loc main_arg0) (ix3 ⟨R.val / 4096, by omega⟩ ⟨R.val % 4096, by omega⟩ k) := by
  unfold V
  after_reads_at

theorem op_g (c : Dev nD) (k : Fin 1024) :
    (V m c main_v25 (ix2 0 k) : EReal) = m ((c : Thread nD τ).loc main_arg1) (ix1 k) := by
  unfold V
  after_reads_at

theorem op_scale (c : Dev nD) (b : Fin 8) (k : Fin 1024) :
    (V m c main_v26 (ix3 b 0 k) : EReal) = m ((c : Thread nD τ).loc main_arg2) (ix2 b k) := by
  unfold V
  after_reads_at

theorem op_shift (c : Dev nD) (b : Fin 8) (k : Fin 1024) :
    (V m c main_v27 (ix3 b 0 k) : EReal) = m ((c : Thread nD τ).loc main_arg3) (ix2 b k) := by
  unfold V
  after_reads_at

set_option maxHeartbeats 4000000 in
theorem op_w (c : Dev nD) (k : Fin 1024) (y : Fin 8704) :
    (V m c main_v24 (ix2 k y) : EReal) = col (fun s => m ((c : Thread nD τ).loc main_arg4) (ix2 k s)) y := by
  unfold V
  after_reads_at
  have hy := y.isLt
  by_cases h0 : y.val < 3072
  · rw [dif_pos h0]
    after_reads_at
    exact col_keep (fun s => m ((c : Thread nD τ).loc main_arg4) (ix2 k s)) y _ _ (by unfold Flip; omega) (by unfold src; split_ifs <;> omega)
  rw [dif_neg h0]
  by_cases h1 : y.val - 3072 < 512
  · rw [dif_pos h1]
    after_reads_at
    exact col_keep (fun s => m ((c : Thread nD τ).loc main_arg4) (ix2 k s)) y _ _ (by unfold Flip; omega) (by unfold src; split_ifs <;> omega)
  rw [dif_neg h1]
  by_cases h2 : y.val - 3072 - 512 < 512
  · rw [dif_pos h2]
    after_reads_at
    exact col_keep (fun s => m ((c : Thread nD τ).loc main_arg4) (ix2 k s)) y _ _ (by unfold Flip; omega) (by unfold src; split_ifs <;> omega)
  rw [dif_neg h2]
  by_cases h3 : y.val - 3072 - 512 - 512 < 512
  · rw [dif_pos h3]
    after_reads_at
    exact col_keep (fun s => m ((c : Thread nD τ).loc main_arg4) (ix2 k s)) y _ _ (by unfold Flip; omega) (by unfold src; split_ifs <;> omega)
  rw [dif_neg h3]
  by_cases h4 : y.val - 3072 - 512 - 512 - 512 < 512
  · rw [dif_pos h4]
    after_reads_at
    exact col_keep (fun s => m ((c : Thread nD τ).loc main_arg4) (ix2 k s)) y _ _ (by unfold Flip; omega) (by unfold src; split_ifs <;> omega)
  rw [dif_neg h4]
  by_cases h5 : y.val - 3072 - 512 - 512 - 512 - 512 < 512
  · rw [dif_pos h5]
    after_reads_at
    exact col_keep (fun s => m ((c : Thread nD τ).loc main_arg4) (ix2 k s)) y _ _ (by unfold Flip; omega) (by unfold src; split_ifs <;> omega)
  rw [dif_neg h5]
  by_cases h6 : y.val - 3072 - 512 - 512 - 512 - 512 - 512 < 512
  · rw [dif_pos h6]
    after_reads_at
    by_cases hr : (y.val - 3072 - 512 - 512 - 512 - 512 - 512) / 32 % 2 < 1
    · rw [dif_pos hr]
      after_reads_at
      exact col_flip (fun s => m ((c : Thread nD τ).loc main_arg4) (ix2 k s)) y _ _ (by unfold Flip; omega) (by unfold src; split_ifs <;> omega)
    · rw [dif_neg hr]
      after_reads_at
      exact col_keep (fun s => m ((c : Thread nD τ).loc main_arg4) (ix2 k s)) y _ _ (by unfold Flip; omega) (by unfold src; split_ifs <;> omega)
  rw [dif_neg h6]
  by_cases h7 : y.val - 3072 - 512 - 512 - 512 - 512 - 512 - 512 < 512
  · rw [dif_pos h7]
    after_reads_at
    exact col_keep (fun s => m ((c : Thread nD τ).loc main_arg4) (ix2 k s)) y _ _ (by unfold Flip; omega) (by unfold src; split_ifs <;> omega)
  rw [dif_neg h7]
  by_cases h8 : y.val - 3072 - 512 - 512 - 512 - 512 - 512 - 512 - 512 < 512
  · rw [dif_pos h8]
    after_reads_at
    exact col_keep (fun s => m ((c : Thread nD τ).loc main_arg4) (ix2 k s)) y _ _ (by unfold Flip; omega) (by unfold src; split_ifs <;> omega)
  rw [dif_neg h8]
  by_cases h9 : y.val - 3072 - 512 - 512 - 512 - 512 - 512 - 512 - 512 - 512 < 512
  · rw [dif_pos h9]
    after_reads_at
    exact col_keep (fun s => m ((c : Thread nD τ).loc main_arg4) (ix2 k s)) y _ _ (by unfold Flip; omega) (by unfold src; split_ifs <;> omega)
  rw [dif_neg h9]
  by_cases h10 : y.val - 3072 - 512 - 512 - 512 - 512 - 512 - 512 - 512 - 512 - 512 < 512
  · rw [dif_pos h10]
    after_reads_at
    exact col_keep (fun s => m ((c : Thread nD τ).loc main_arg4) (ix2 k s)) y _ _ (by unfold Flip; omega) (by unfold src; split_ifs <;> omega)
  rw [dif_neg h10]
  after_reads_at
  exact col_keep (fun s => m ((c : Thread nD τ).loc main_arg4) (ix2 k s)) y _ _ (by unfold Flip; omega) (by unfold src; split_ifs <;> omega)

/-! ## The blocks -/

theorem ind0 : ∀ t : Fin cfg0.N, win0_0.index t = ![t.val / 17, 0] := (by decide +kernel : ∀ t : Fin grid0.N, _)
theorem ind1 : ∀ t : Fin cfg0.N, win0_1.index t = ![0, 0] := (by decide +kernel : ∀ t : Fin grid0.N, _)
theorem ind2 : ∀ t : Fin cfg0.N, win0_2.index t = ![t.val / 17 / 4, 0, 0] := (by decide +kernel : ∀ t : Fin grid0.N, _)
theorem ind3 : ∀ t : Fin cfg0.N, win0_3.index t = ![t.val / 17 / 4, 0, 0] := (by decide +kernel : ∀ t : Fin grid0.N, _)
theorem ind4 : ∀ t : Fin cfg0.N, win0_4.index t = ![0, t.val % 17] := (by decide +kernel : ∀ t : Fin grid0.N, _)
theorem ind5 : ∀ t : Fin cfg0.N, win0_5.index t = ![t.val / 17, t.val % 17] := (by decide +kernel : ∀ t : Fin grid0.N, _)

theorem lt_N (t : Fin cfg0.N) : t.val < 544 := N_0 ▸ t.isLt

/-- The row of the array a row of a block is. -/
abbrev rowOf (t : Fin cfg0.N) (r : Fin 1024) : Fin 32768 := ⟨1024 * (t.val / 17) + r.val, by have := lt_N t; omega⟩
/-- The batch of a block. -/
abbrev batOf (t : Fin cfg0.N) : Fin 8 := ⟨t.val / 17 / 4, by have := lt_N t; omega⟩
/-- The column of the array a column of a block is. -/
abbrev colOf (t : Fin cfg0.N) (j : Fin 512) : Fin 8704 := ⟨512 * (t.val % 17) + j.val, by omega⟩

theorem blk_x (c : Dev nD) (t : Fin cfg0.N) (r : Fin 1024) (k : Fin 1024) :
    (iblk m c 0 t (ix2 r k) : EReal) = V m c main_v0 (ix2 (rowOf t r) k) := by
  blk_ext [ind0, iblk]
  all_goals (dsimp only [rowOf]; omega)

theorem blk_g (c : Dev nD) (t : Fin cfg0.N) (k : Fin 1024) :
    (iblk m c 1 t (ix2 0 k) : EReal) = V m c main_v25 (ix2 0 k) := by
  blk_ext [ind1, iblk]

theorem blk_scale (c : Dev nD) (t : Fin cfg0.N) (k : Fin 1024) :
    (iblk m c 2 t (ix3 0 0 k) : EReal) = V m c main_v26 (ix3 (batOf t) 0 k) := by
  blk_ext [ind2, iblk]
  all_goals (dsimp only [batOf]; omega)

theorem blk_shift (c : Dev nD) (t : Fin cfg0.N) (k : Fin 1024) :
    (iblk m c 3 t (ix3 0 0 k) : EReal) = V m c main_v27 (ix3 (batOf t) 0 k) := by
  blk_ext [ind3, iblk]
  all_goals (dsimp only [batOf]; omega)

theorem blk_w (c : Dev nD) (t : Fin cfg0.N) (k : Fin 1024) (j : Fin 512) :
    (iblk m c 4 t (ix2 k j) : EReal) = V m c main_v24 (ix2 k (colOf t j)) := by
  blk_ext [ind4, iblk]
  all_goals (dsimp only [colOf]; omega)

end Cert.ProjectionIdeal.Proj
end
-- ==== Proof.ProjBody.lean ====
module

public import proofs.«01_k».proof.Proof.Gen.ProjectionIdeal.Value
public import Idealize.ShloMosaic.Lib.Pipeline.ValueKit.Geometry
public import Idealize.ShloMosaic.Lib.Pointwise

@[expose] public section

/-! What the body leaves in its output block and in the rows it carries along. -/

set_option maxRecDepth 16384

noncomputable section

namespace Cert.ProjectionIdeal.Proj
open Cert.ProjectionIdeal Cert.ProjectionIdeal.Gen Idealize.ShloMosaic Idealize.ShloMosaic.TcCoe Idealize.SL.Sem

variable {F : FTy → Type} [FloatOps F] [Named F]

/-- At the first block of columns of a row: the normalized rows are made and kept. -/
theorem soutA_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1x1024 .f32) (x3 : Vec F S1x1x1024 .f32) (x4 : Vec F S1024x512 .bf16) :
    sout0_A_0 c i arg2 harg2 arg3 harg3 arg4 harg4 arg5 harg5 arg6 harg6 arg7 harg7 arg8 harg8 hc0 x0 x1 x2 x3 x4 = k0_pay1 x0 x1 x2 x3 := by
  have h0 : (View.readAt (Elt F) arg2.view (Rect.unit ![0, 0] S1024x1024.size inb_S1024x1024_S1024x1024_0_0).toLoadRect (harg2.unread x0)) = x0 := by
    rw [View.readAt_eq_ld, harg2.read_unread]
    exact View.ld_unit_zero (by decide) _ _
  have h1 : (View.readAt (Elt F) arg3.view (Rect.unit ![0, 0] S1x1024.size inb_S1x1024_S1x1024_0_0).toLoadRect (harg3.unread x1)) = x1 := by
    rw [View.readAt_eq_ld, harg3.read_unread]
    exact View.ld_unit_zero (by decide) _ _
  have h2 : (View.readAt (Elt F) arg4.view (Rect.unit ![0, 0, 0] S1x1x1024.size inb_S1x1x1024_S1x1x1024_0_0_0).toLoadRect (harg4.unread x2)) = x2 := by
    rw [View.readAt_eq_ld, harg4.read_unread]
    exact View.ld_unit_zero (by decide) _ _
  have h3 : (View.readAt (Elt F) arg5.view (Rect.unit ![0, 0, 0] S1x1x1024.size inb_S1x1x1024_S1x1x1024_0_0_0).toLoadRect (harg5.unread x3)) = x3 := by
    rw [View.readAt_eq_ld, harg5.read_unread]
    exact View.ld_unit_zero (by decide) _ _
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  unfold kernelRun0_A.sl.HS0_1
  try dsimp only
  rw [View.canon_unit_zero (by decide), h0, h1, h2, h3]

/-- … and multiplied by the block of columns. -/
theorem outA_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1x1024 .f32) (x3 : Vec F S1x1x1024 .f32) (x4 : Vec F S1024x512 .bf16) :
    out0_A_5 c i arg2 harg2 arg3 harg3 arg4 harg4 arg5 harg5 arg6 harg6 arg7 harg7 arg8 harg8 hc0 x0 x1 x2 x3 x4 = k0_pay2 (k0_pay1 x0 x1 x2 x3) x4 := by
  have h0 : (View.readAt (Elt F) arg2.view (Rect.unit ![0, 0] S1024x1024.size inb_S1024x1024_S1024x1024_0_0).toLoadRect (harg2.unread x0)) = x0 := by
    rw [View.readAt_eq_ld, harg2.read_unread]
    exact View.ld_unit_zero (by decide) _ _
  have h1 : (View.readAt (Elt F) arg3.view (Rect.unit ![0, 0] S1x1024.size inb_S1x1024_S1x1024_0_0).toLoadRect (harg3.unread x1)) = x1 := by
    rw [View.readAt_eq_ld, harg3.read_unread]
    exact View.ld_unit_zero (by decide) _ _
  have h2 : (View.readAt (Elt F) arg4.view (Rect.unit ![0, 0, 0] S1x1x1024.size inb_S1x1x1024_S1x1x1024_0_0_0).toLoadRect (harg4.unread x2)) = x2 := by
    rw [View.readAt_eq_ld, harg4.read_unread]
    exact View.ld_unit_zero (by decide) _ _
  have h3 : (View.readAt (Elt F) arg5.view (Rect.unit ![0, 0, 0] S1x1x1024.size inb_S1x1x1024_S1x1x1024_0_0_0).toLoadRect (harg5.unread x3)) = x3 := by
    rw [View.readAt_eq_ld, harg5.read_unread]
    exact View.ld_unit_zero (by decide) _ _
  have h4 : (View.readAt (Elt F) arg6.view (Rect.unit ![0, 0] S1024x512.size inb_S1024x512_S1024x512_0_0).toLoadRect (harg6.unread x4)) = x4 := by
    rw [View.readAt_eq_ld, harg6.read_unread]
    exact View.ld_unit_zero (by decide) _ _
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  rw [View.canon_unit_zero (by decide), h4]
  refine congrArg (fun z => k0_pay2 z x4) ?_
  refine (View.readCov_cons_toLoadRect arg8.view _ _ []).trans ?_
  rw [h0, h1, h2, h3]

/-- At a later block of columns: the kept rows, multiplied. -/
theorem outB_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1x1024 .f32) (x3 : Vec F S1x1x1024 .f32) (x4 : Vec F S1024x512 .bf16) (xs0 : Vec F S1024x1024 .bf16) :
    out0_B_5 c i arg2 harg2 arg3 harg3 arg4 harg4 arg5 harg5 arg6 harg6 arg7 harg7 arg8 harg8 hc0 x0 x1 x2 x3 x4 xs0 = k0_pay2 xs0 x4 := by
  have h4 : (View.readAt (Elt F) arg6.view (Rect.unit ![0, 0] S1024x512.size inb_S1024x512_S1024x512_0_0).toLoadRect (harg6.unread x4)) = x4 := by
    rw [View.readAt_eq_ld, harg6.read_unread]
    exact View.ld_unit_zero (by decide) _ _
  have h5 : (View.readAt (Elt F) arg8.view (Rect.unit ![0, 0] S1024x1024.size inb_S1024x1024_S1024x1024_0_0).toLoadRect (harg8.unread xs0)) = xs0 := by
    rw [View.readAt_eq_ld, harg8.read_unread]
    exact View.ld_unit_zero (by decide) _ _
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero (by decide), h4, h5]

end Cert.ProjectionIdeal.Proj
end
-- ==== Proof.ProjElem.lean ====
module

public import proofs.«01_k».proof.Proof.ProjBody
public import proofs.«01_k».proof.Proof.Norm
public import Idealize.ShloMosaic.Lib.Pointwise

@[expose] public section

/-! The projection's body at an index. -/

set_option maxRecDepth 16384

noncomputable section

namespace Cert.ProjectionIdeal.Proj
open Cert.ProjectionIdeal Cert.ProjectionIdeal.Gen Idealize.ShloMosaic Idealize.ShloMosaic.TcCoe Idealize.SL.Sem Idealize.ShloMosaic.Pointwise Cert.Norm

/-- The rows kept: normalized, scaled and shifted. -/
theorem kept_apply (x0 : Vec Ideal S1024x1024 .f32) (x1 : Vec Ideal S1x1024 .f32) (x2 x3 : Vec Ideal S1x1x1024 .f32) (r k : Fin 1024) :
    (k0_pay1 x0 x1 x2 x3 (ix2 r k) : EReal)
      = row (fun k => x0 (ix2 r k)) (fun k => x1 (ix2 0 k)) (fun k => x2 (ix3 0 0 k)) (fun k => x3 (ix3 0 0 k)) k := by
  unfold row nrm fac
  pointwise [k0_pay1]

/-- The block written: kept rows times a block of columns. -/
theorem prod_apply (h : Vec Ideal S1024x1024 .bf16) (w : Vec Ideal S1024x512 .bf16) (r : Fin 1024) (j : Fin 512) :
    (k0_pay2 h w (ix2 r j) : EReal) = ∑ k : Fin 1024, h (ix2 r k) * w (ix2 k j) := by
  pointwise [k0_pay2]

end Cert.ProjectionIdeal.Proj
end
-- ==== Proof.ProjRef.lean ====
module

public import proofs.«01_k».proof.Proof.Gen.ProjectionRefIdeal.Read
public import proofs.«01_k».proof.Proof.Columns
public import Idealize.ShloMosaic.Lib.Pointwise

@[expose] public section

/-! The reference of the projection, at an index. -/

set_option maxRecDepth 16384

noncomputable section

namespace Cert.ProjectionRefIdeal.Proj
open Cert.ProjectionRefIdeal Cert.ProjectionRefIdeal.Gen Cert.ProjectionRefIdeal.Read Idealize.ShloMosaic Idealize.ShloMosaic.TcCoe Idealize.SL.Sem
open Idealize.ShloMosaic.Pointwise Idealize.ShloMosaic.StableHlo Cert.Norm Cert.Columns

variable (x0 : Vec Ideal S8x4096x1024 .f32) (x1 : Vec Ideal S1024 .f32) (x2 x3 : Vec Ideal S8x1024 .f32) (x4 : Vec Ideal S1024x8912 .f32)

/-- The normalized row. -/
theorem row_apply (b : Fin 8) (T : Fin 4096) (j : Fin 1024) :
    val_main_v20 (F := Ideal) x0 x1 x2 x3 (ix3 b T j)
      = row (fun k => x0 (ix3 b T k)) (fun k => x1 (ix1 k)) (fun k => x2 (ix2 b k)) (fun k => x3 (ix2 b k)) j := by
  unfold row nrm fac
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- A row times a column of the weights. -/
theorem z_apply (b : Fin 8) (T : Fin 4096) (s : Fin 8912) :
    val_main_v21 (F := Ideal) x0 x1 x2 x3 x4 (ix3 b T s)
      = ∑ k : Fin 1024, val_main_v20 (F := Ideal) x0 x1 x2 x3 (ix3 b T k) * x4 (ix2 k s) := by
  pointwise [val_main_v21]

set_option maxRecDepth 200000 in
set_option maxHeartbeats 4000000 in
/-- The columns in the kernel's order. -/
theorem cols_apply (b : Fin 8) (T : Fin 4096) (y : Fin 8704) :
    val_main_v44 (F := Ideal) x0 x1 x2 x3 x4 (ix3 b T y) = col (fun s => val_main_v21 (F := Ideal) x0 x1 x2 x3 x4 (ix3 b T s)) y := by
  pointwise [val_main_v44, val_main_v37, val_main_v22, val_main_v23, val_main_v24, val_main_v26, val_main_v27, val_main_v32, val_main_v33, val_main_v34, val_main_v35, val_main_v36, val_main_v43, val_main_v42, val_main_v41, val_main_v40, val_main_v39, val_main_v38]
  have hy := y.isLt
  by_cases h0 : y.val < 3072
  · rw [dif_pos h0]
    exact col_keep (fun s => val_main_v21 (F := Ideal) x0 x1 x2 x3 x4 (ix3 b T s)) y _ _ (by unfold Flip; omega) (by unfold src; split_ifs <;> omega)
  rw [dif_neg h0]
  by_cases h1 : y.val - 3072 < 512
  · rw [dif_pos h1]
    exact col_keep (fun s => val_main_v21 (F := Ideal) x0 x1 x2 x3 x4 (ix3 b T s)) y _ _ (by unfold Flip; omega) (by unfold src; split_ifs <;> omega)
  rw [dif_neg h1]
  by_cases h2 : y.val - 3072 - 512 < 512
  · rw [dif_pos h2]
    exact col_keep (fun s => val_main_v21 (F := Ideal) x0 x1 x2 x3 x4 (ix3 b T s)) y _ _ (by unfold Flip; omega) (by unfold src; split_ifs <;> omega)
  rw [dif_neg h2]
  by_cases h3 : y.val - 3072 - 512 - 512 < 512
  · rw [dif_pos h3]
    exact col_keep (fun s => val_main_v21 (F := Ideal) x0 x1 x2 x3 x4 (ix3 b T s)) y _ _ (by unfold Flip; omega) (by unfold src; split_ifs <;> omega)
  rw [dif_neg h3]
  by_cases h4 : y.val - 3072 - 512 - 512 - 512 < 512
  · rw [dif_pos h4]
    exact col_keep (fun s => val_main_v21 (F := Ideal) x0 x1 x2 x3 x4 (ix3 b T s)) y _ _ (by unfold Flip; omega) (by unfold src; split_ifs <;> omega)
  rw [dif_neg h4]
  by_cases h5 : y.val - 3072 - 512 - 512 - 512 - 512 < 512
  · rw [dif_pos h5]
    exact col_keep (fun s => val_main_v21 (F := Ideal) x0 x1 x2 x3 x4 (ix3 b T s)) y _ _ (by unfold Flip; omega) (by unfold src; split_ifs <;> omega)
  rw [dif_neg h5]
  by_cases h6 : y.val - 3072 - 512 - 512 - 512 - 512 - 512 < 512
  · rw [dif_pos h6]
    by_cases hr : (y.val - 3072 - 512 - 512 - 512 - 512 - 512) / 32 % 2 < 1
    · rw [dif_pos hr]
      exact col_flip (fun s => val_main_v21 (F := Ideal) x0 x1 x2 x3 x4 (ix3 b T s)) y _ _ (by unfold Flip; omega) (by unfold src; split_ifs <;> omega)
    · rw [dif_neg hr]
      exact col_keep (fun s => val_main_v21 (F := Ideal) x0 x1 x2 x3 x4 (ix3 b T s)) y _ _ (by unfold Flip; omega) (by unfold src; split_ifs <;> omega)
  rw [dif_neg h6]
  by_cases h7 : y.val - 3072 - 512 - 512 - 512 - 512 - 512 - 512 < 512
  · rw [dif_pos h7]
    exact col_keep (fun s => val_main_v21 (F := Ideal) x0 x1 x2 x3 x4 (ix3 b T s)) y _ _ (by unfold Flip; omega) (by unfold src; split_ifs <;> omega)
  rw [dif_neg h7]
  by_cases h8 : y.val - 3072 - 512 - 512 - 512 - 512 - 512 - 512 - 512 < 512
  · rw [dif_pos h8]
    exact col_keep (fun s => val_main_v21 (F := Ideal) x0 x1 x2 x3 x4 (ix3 b T s)) y _ _ (by unfold Flip; omega) (by unfold src; split_ifs <;> omega)
  rw [dif_neg h8]
  by_cases h9 : y.val - 3072 - 512 - 512 - 512 - 512 - 512 - 512 - 512 - 512 < 512
  · rw [dif_pos h9]
    exact col_keep (fun s => val_main_v21 (F := Ideal) x0 x1 x2 x3 x4 (ix3 b T s)) y _ _ (by unfold Flip; omega) (by unfold src; split_ifs <;> omega)
  rw [dif_neg h9]
  by_cases h10 : y.val - 3072 - 512 - 512 - 512 - 512 - 512 - 512 - 512 - 512 - 512 < 512
  · rw [dif_pos h10]
    exact col_keep (fun s => val_main_v21 (F := Ideal) x0 x1 x2 x3 x4 (ix3 b T s)) y _ _ (by unfold Flip; omega) (by unfold src; split_ifs <;> omega)
  rw [dif_neg h10]
  exact col_keep (fun s => val_main_v21 (F := Ideal) x0 x1 x2 x3 x4 (ix3 b T s)) y _ _ (by unfold Flip; omega) (by unfold src; split_ifs <;> omega)

theorem out_apply (R : Fin 32768) (y : Fin 8704) :
    val_main_v46 (F := Ideal) x0 x1 x2 x3 x4 (ix2 R y)
      = val_main_v44 (F := Ideal) x0 x1 x2 x3 x4 (ix3 ⟨R.val / 4096, by omega⟩ ⟨R.val % 4096, by omega⟩ y) := by
  pointwise [val_main_v46, val_main_v45]

end Cert.ProjectionRefIdeal.Proj
end
-- ==== Proof.ProjResult.lean ====
module

public import proofs.«01_k».proof.Proof.ProjBlocks
public import proofs.«01_k».proof.Proof.ProjBody
public import proofs.«01_k».proof.Proof.ProjElem
public import proofs.«01_k».proof.Proof.ProjRef

@[expose] public section

/-! The projection's result array is its reference's, where the gains, scales, shifts and weights are finite. -/

set_option maxRecDepth 16384

noncomputable section

namespace Cert.ProjectionIdeal.Proj
open Cert.ProjectionIdeal Cert.ProjectionIdeal.Gen Idealize.ShloMosaic Idealize.ShloMosaic.TcCoe Idealize.SL.Sem Idealize.ShloMosaic.Pointwise Cert.Norm Cert.Columns

variable (m : (ℓ : Loc nD τ sig) → Buf (Elt Ideal) ℓ)

/-- The normalized, scaled and shifted row the arguments give. -/
def hrow (c : Dev nD) (R : Fin 32768) (k : Fin 1024) : EReal :=
  row (fun k => m ((c : Thread nD τ).loc main_arg0) (ix3 ⟨R.val / 4096, by omega⟩ ⟨R.val % 4096, by omega⟩ k)) (fun k => m ((c : Thread nD τ).loc main_arg1) (ix1 k))
    (fun k => m ((c : Thread nD τ).loc main_arg2) (ix2 ⟨R.val / 4096, by omega⟩ k)) (fun k => m ((c : Thread nD τ).loc main_arg3) (ix2 ⟨R.val / 4096, by omega⟩ k)) k

/-- What the first point of a row of blocks computes of its blocks. -/
theorem fresh (c : Dev nD) (t : Fin cfg0.N) (r k : Fin 1024) :
    (k0_pay1 (iblk m c 0 t) (iblk m c 1 t) (iblk m c 2 t) (iblk m c 3 t) (ix2 r k) : EReal) = hrow m c (rowOf t r) k := by
  have ht := lt_N t
  have hb : batOf t = ⟨(rowOf t r).val / 4096, by omega⟩ := Fin.ext (by dsimp only; omega)
  refine (kept_apply _ _ _ _ r k).trans ?_
  unfold hrow
  congr 1
  · funext l; exact (blk_x m c t r l).trans (op_x m c _ l)
  · funext l; exact (blk_g m c t l).trans (op_g m c l)
  · funext l; exact (blk_scale m c t l).trans ((op_scale m c _ l).trans (by rw [hb]))
  · funext l; exact (blk_shift m c t l).trans ((op_shift m c _ l).trans (by rw [hb]))

/-- The point before, on the same row of blocks. -/
abbrev pred (t : Fin cfg0.N) : Fin cfg0.N := ⟨t.val - 1, Nat.lt_of_le_of_lt (Nat.sub_le _ _) t.isLt⟩

theorem rowOf_pred (t : Fin cfg0.N) (h0 : ¬t.val % 17 = 0) (r : Fin 1024) : rowOf (pred t) r = rowOf t r := Fin.ext (by dsimp only; omega)

theorem kept_A (c : Dev nD) (t : Fin cfg0.N) (h0 : t.val % 17 = 0) :
    (outsAt0 m c t.val t.isLt).2 = k0_pay1 (iblk m c 0 t) (iblk m c 1 t) (iblk m c 2 t) (iblk m c 3 t) := by
  rw [outsAt0_A m c t h0]
  dsimp only
  rw [soutA_eq]

theorem kept_B (c : Dev nD) (t : Fin cfg0.N) (h0 : ¬t.val % 17 = 0) : (outsAt0 m c t.val t.isLt).2 = (outsAt0 m c (pred t).val (pred t).isLt).2 := by
  rw [outsAt0_B m c t h0]
  dsimp only [sout0_B_0]

theorem left_A (c : Dev nD) (t : Fin cfg0.N) (h0 : t.val % 17 = 0) :
    (outsAt0 m c t.val t.isLt).1 = k0_pay2 (k0_pay1 (iblk m c 0 t) (iblk m c 1 t) (iblk m c 2 t) (iblk m c 3 t)) (iblk m c 4 t) := by
  rw [outsAt0_A m c t h0]
  dsimp only
  rw [outA_eq]

theorem left_B (c : Dev nD) (t : Fin cfg0.N) (h0 : ¬t.val % 17 = 0) :
    (outsAt0 m c t.val t.isLt).1 = k0_pay2 (outsAt0 m c (pred t).val (pred t).isLt).2 (iblk m c 4 t) := by
  rw [outsAt0_B m c t h0]
  dsimp only
  rw [outB_eq]

/-- Every point of a row of blocks keeps that row's rows. -/
theorem kept (c : Dev nD) (n : ℕ) : ∀ (t : Fin cfg0.N), t.val = n → ∀ r k : Fin 1024,
    ((outsAt0 m c t.val t.isLt).2 (ix2 r k) : EReal) = hrow m c (rowOf t r) k := by
  induction n using Nat.strong_induction_on with
  | _ n ih =>
    intro t ht r k
    by_cases h0 : t.val % 17 = 0
    · rw [kept_A m c t h0]
      exact fresh m c t r k
    · rw [kept_B m c t h0, ih (t.val - 1) (by omega) (pred t) rfl r k, rowOf_pred t h0]

/-- What a point leaves in its block of the result. -/
theorem out_at (c : Dev nD) (t : Fin cfg0.N) (r : Fin 1024) (j : Fin 512) :
    ((outsAt0 m c t.val t.isLt).1 (ix2 r j) : EReal)
      = ∑ k, hrow m c (rowOf t r) k * col (fun s => m ((c : Thread nD τ).loc main_arg4) (ix2 k s)) (colOf t j) := by
  have hw : ∀ k, (iblk m c 4 t (ix2 k j) : EReal) = col (fun s => m ((c : Thread nD τ).loc main_arg4) (ix2 k s)) (colOf t j) :=
    fun k => (blk_w m c t k j).trans (op_w m c k _)
  by_cases h0 : t.val % 17 = 0
  · rw [left_A m c t h0]
    refine (prod_apply _ _ r j).trans ?_
    exact Finset.sum_congr rfl fun k _ => congrArg₂ (· * ·) (fresh m c t r k) (hw k)
  · rw [left_B m c t h0]
    refine (prod_apply _ _ r j).trans ?_
    refine Finset.sum_congr rfl fun k _ => congrArg₂ (· * ·) ((kept m c _ (pred t) rfl r k).trans ?_) (hw k)
    rw [rowOf_pred t h0]

/-- The reference's result from the kernel's arguments. -/
def G (c : Dev nD) : Vec Ideal S32768x8704 .bf16 :=
  Cert.ProjectionRefIdeal.Read.val_main_v46 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem final (c : Dev nD)
    (hg : ∀ k : Fin 1024, Real' (m ((c : Thread nD τ).loc main_arg1) (ix1 k) : EReal))
    (hsc : ∀ (b : Fin 8) (k : Fin 1024), Real' (m ((c : Thread nD τ).loc main_arg2) (ix2 b k) : EReal))
    (hsh : ∀ (b : Fin 8) (k : Fin 1024), Real' (m ((c : Thread nD τ).loc main_arg3) (ix2 b k) : EReal))
    (hw : ∀ (k : Fin 1024) (s : Fin 8912), Real' (m ((c : Thread nD τ).loc main_arg4) (ix2 k s) : EReal)) :
    (dats m 0 c).arrAt 5 cfg0.N = G m c := by
  refine (dats m 0 c).arrAt_eq_of_covers 5 _ (by decide +kernel) fun t hf y => ?_
  blk_simp
  idx_vars y
  rw [after0_5]
  have h : ((outsAt0 m c t.val t.isLt).1 (ix2 y0 y1) : EReal) = G m c (ix2 (rowOf t y0) (colOf t y1)) := by
    refine (out_at m c t y0 y1).trans ?_
    refine (sum_col _ _ (fun k => row_real _ _ _ _ (fun _ => hg _) (fun _ => hsc _ _) (fun _ => hsh _ _) k) (fun k s => hw k s) _).trans ?_
    refine Eq.trans ?_ ((Cert.ProjectionRefIdeal.Proj.out_apply _ _ _ _ _ (rowOf t y0) (colOf t y1)).trans (Cert.ProjectionRefIdeal.Proj.cols_apply _ _ _ _ _ _ _ _)).symm
    congr 1
    funext s
    refine Eq.trans ?_ (Cert.ProjectionRefIdeal.Proj.z_apply _ _ _ _ _ _ _ s).symm
    exact Finset.sum_congr rfl fun k _ => congrArg₂ (· * ·) (Cert.ProjectionRefIdeal.Proj.row_apply _ _ _ _ _ _ k).symm rfl
  refine h.trans ?_
  blk_ext [ind5]
  all_goals (dsimp only [rowOf, colOf]; omega)

end Cert.ProjectionIdeal.Proj
end
-- ==== Proof.MergeBlocks.lean ====
module

public import proofs.«01_k».proof.Proof.Gen.MergeIdeal.Value
public import Idealize.ShloMosaic.Lib.Pipeline.ValueKit.Geometry
public import Idealize.ShloMosaic.Lib.StableHlo.ReadAt
public import Idealize.ShloMosaic.Lib.Pointwise

@[expose] public section

/-! The merge's operands and its blocks of them, read at an index. -/

set_option maxRecDepth 16384

noncomputable section

namespace Cert.MergeIdeal.Merge
open Cert.MergeIdeal Cert.MergeIdeal.Gen Idealize.ShloMosaic Idealize.ShloMosaic.TcCoe Idealize.SL.Sem Idealize.ShloMosaic.Pointwise

variable (m : (ℓ : Loc nD τ sig) → Buf (Elt Ideal) ℓ)

/-! ## The operands -/

theorem op_x (c : Dev nD) (R : Fin 32768) (k : Fin 1024) :
    (V m c main_v4 (ix2 R k) : EReal) = m ((c : Thread nD τ).loc main_arg0) (ix3 ⟨R.val / 4096, by omega⟩ ⟨R.val % 4096, by omega⟩ k) := by
  unfold V
  after_reads_at

theorem op_gate (c : Dev nD) (b : Fin 8) (k : Fin 1024) :
    (V m c main_v5 (ix3 b 0 k) : EReal) = m ((c : Thread nD τ).loc main_arg1) (ix2 b k) := by
  unfold V
  after_reads_at

theorem op_yf (c : Dev nD) (R : Fin 32768) (d : Fin 512) :
    (V m c main_v7 (ix2 R d) : EReal) = m ((c : Thread nD τ).loc main_arg2) (ix3 ⟨R.val / 4096, by omega⟩ ⟨R.val % 4096, by omega⟩ d) := by
  unfold V
  after_reads_at

theorem op_yd (c : Dev nD) (R : Fin 32768) (d : Fin 512) :
    (V m c main_v9 (ix2 R d) : EReal) = m ((c : Thread nD τ).loc main_arg3) (ix3 ⟨R.val / 4096, by omega⟩ ⟨R.val % 4096, by omega⟩ d) := by
  unfold V
  after_reads_at

theorem op_ys (c : Dev nD) (R : Fin 32768) (d : Fin 512) :
    (V m c main_v11 (ix2 R d) : EReal) = m ((c : Thread nD τ).loc main_arg4) (ix3 ⟨R.val / 4096, by omega⟩ ⟨R.val % 4096, by omega⟩ d) := by
  unfold V
  after_reads_at

theorem op_m (c : Dev nD) (R : Fin 32768) (y : Fin 8704) (s : Fin 3072) (h : y.val = s.val) :
    (V m c main_v3 (ix2 R y) : EReal) = m ((c : Thread nD τ).loc main_arg5) (ix3 ⟨R.val / 4096, by omega⟩ ⟨R.val % 4096, by omega⟩ s) := by
  rw [show y = ⟨s.val, by omega⟩ from Fin.ext h]
  unfold V
  after_reads_at

theorem op_wf (c : Dev nD) (d : Fin 512) (k : Fin 1024) :
    (V m c main_v12 (ix2 d k) : EReal) = m ((c : Thread nD τ).loc main_arg6) (ix2 d k) := by
  unfold V
  after_reads_at

theorem op_wd (c : Dev nD) (d : Fin 512) (k : Fin 1024) :
    (V m c main_v13 (ix2 d k) : EReal) = m ((c : Thread nD τ).loc main_arg7) (ix2 d k) := by
  unfold V
  after_reads_at

theorem op_ws (c : Dev nD) (d : Fin 512) (k : Fin 1024) :
    (V m c main_v14 (ix2 d k) : EReal) = m ((c : Thread nD τ).loc main_arg8) (ix2 d k) := by
  unfold V
  after_reads_at

theorem op_wo (c : Dev nD) (d : Fin 1024) (k : Fin 1024) :
    (V m c main_v15 (ix2 d k) : EReal) = m ((c : Thread nD τ).loc main_arg9) (ix2 d k) := by
  unfold V
  after_reads_at

theorem op_gf (c : Dev nD) (k : Fin 1024) :
    (V m c main_v16 (ix2 0 k) : EReal) = m ((c : Thread nD τ).loc main_arg10) (ix1 k) := by
  unfold V
  after_reads_at

/-! ## The blocks -/

theorem ind0 : ∀ t : Fin cfg0.N, win0_0.index t = ![t.val, 0] := (by decide +kernel : ∀ t : Fin grid0.N, _)
theorem ind1 : ∀ t : Fin cfg0.N, win0_1.index t = ![t.val / 8, 0, 0] := (by decide +kernel : ∀ t : Fin grid0.N, _)
theorem ind2 : ∀ t : Fin cfg0.N, win0_2.index t = ![t.val, 0] := (by decide +kernel : ∀ t : Fin grid0.N, _)
theorem ind3 : ∀ t : Fin cfg0.N, win0_3.index t = ![t.val, 0] := (by decide +kernel : ∀ t : Fin grid0.N, _)
theorem ind4 : ∀ t : Fin cfg0.N, win0_4.index t = ![t.val, 0] := (by decide +kernel : ∀ t : Fin grid0.N, _)
theorem ind5 : ∀ t : Fin cfg0.N, win0_5.index t = ![t.val, 0] := (by decide +kernel : ∀ t : Fin grid0.N, _)
theorem ind6 : ∀ t : Fin cfg0.N, win0_6.index t = ![t.val, 1] := (by decide +kernel : ∀ t : Fin grid0.N, _)
theorem ind7 : ∀ t : Fin cfg0.N, win0_7.index t = ![t.val, 2] := (by decide +kernel : ∀ t : Fin grid0.N, _)
theorem ind8 : ∀ t : Fin cfg0.N, win0_8.index t = ![0, 0] := (by decide +kernel : ∀ t : Fin grid0.N, _)
theorem ind9 : ∀ t : Fin cfg0.N, win0_9.index t = ![0, 0] := (by decide +kernel : ∀ t : Fin grid0.N, _)
theorem ind10 : ∀ t : Fin cfg0.N, win0_10.index t = ![0, 0] := (by decide +kernel : ∀ t : Fin grid0.N, _)
theorem ind11 : ∀ t : Fin cfg0.N, win0_11.index t = ![0, 0] := (by decide +kernel : ∀ t : Fin grid0.N, _)
theorem ind12 : ∀ t : Fin cfg0.N, win0_12.index t = ![0, 0] := (by decide +kernel : ∀ t : Fin grid0.N, _)
theorem ind13 : ∀ t : Fin cfg0.N, win0_13.index t = ![t.val, 0] := (by decide +kernel : ∀ t : Fin grid0.N, _)

/-- The row of the array a row of a block is. -/
abbrev rowOf (t : Fin cfg0.N) (r : Fin 512) : Fin 32768 := ⟨512 * t.val + r.val, by have : t.val < 64 := N_0 ▸ t.isLt; omega⟩
/-- The batch of a block. -/
abbrev batOf (t : Fin cfg0.N) : Fin 8 := ⟨t.val / 8, by have : t.val < 64 := N_0 ▸ t.isLt; omega⟩

theorem blk_x (c : Dev nD) (t : Fin cfg0.N) (r : Fin 512) (k : Fin 1024) :
    (iblk m c 0 t (ix2 r k) : EReal) = V m c main_v4 (ix2 (rowOf t r) k) := by
  blk_ext [ind0, iblk]
  all_goals (dsimp only [rowOf, batOf]; omega)

theorem blk_gate (c : Dev nD) (t : Fin cfg0.N) (k : Fin 1024) :
    (iblk m c 1 t (ix3 0 0 k) : EReal) = V m c main_v5 (ix3 (batOf t) 0 k) := by
  blk_ext [ind1, iblk]
  all_goals (dsimp only [rowOf, batOf]; omega)

theorem blk_yf (c : Dev nD) (t : Fin cfg0.N) (r : Fin 512) (d : Fin 512) :
    (iblk m c 2 t (ix2 r d) : EReal) = V m c main_v7 (ix2 (rowOf t r) d) := by
  blk_ext [ind2, iblk]
  all_goals (dsimp only [rowOf, batOf]; omega)

theorem blk_yd (c : Dev nD) (t : Fin cfg0.N) (r : Fin 512) (d : Fin 512) :
    (iblk m c 3 t (ix2 r d) : EReal) = V m c main_v9 (ix2 (rowOf t r) d) := by
  blk_ext [ind3, iblk]
  all_goals (dsimp only [rowOf, batOf]; omega)

theorem blk_ys (c : Dev nD) (t : Fin cfg0.N) (r : Fin 512) (d : Fin 512) :
    (iblk m c 4 t (ix2 r d) : EReal) = V m c main_v11 (ix2 (rowOf t r) d) := by
  blk_ext [ind4, iblk]
  all_goals (dsimp only [rowOf, batOf]; omega)

theorem blk_m0 (c : Dev nD) (t : Fin cfg0.N) (r : Fin 512) (k : Fin 1024) :
    (X0_5 m c t (ix2 r k) : EReal) = V m c main_v3 (ix2 (rowOf t r) ⟨k.val, by omega⟩) := by
  unfold X0_5 Pipeline.Window.fill
  rw [dif_pos (moved0_5 t _)]
  blk_ext [ind5, iblk]
  all_goals (dsimp only [rowOf, batOf]; omega)

theorem blk_m1 (c : Dev nD) (t : Fin cfg0.N) (r : Fin 512) (k : Fin 1024) :
    (X0_6 m c t (ix2 r k) : EReal) = V m c main_v3 (ix2 (rowOf t r) ⟨1024 + k.val, by omega⟩) := by
  unfold X0_6 Pipeline.Window.fill
  rw [dif_pos (moved0_6 t _)]
  blk_ext [ind6, iblk]
  all_goals (dsimp only [rowOf, batOf]; omega)

theorem blk_m2 (c : Dev nD) (t : Fin cfg0.N) (r : Fin 512) (k : Fin 1024) :
    (X0_7 m c t (ix2 r k) : EReal) = V m c main_v3 (ix2 (rowOf t r) ⟨2048 + k.val, by omega⟩) := by
  unfold X0_7 Pipeline.Window.fill
  rw [dif_pos (moved0_7 t _)]
  blk_ext [ind7, iblk]
  all_goals (dsimp only [rowOf, batOf]; omega)

theorem blk_wf (c : Dev nD) (t : Fin cfg0.N) (d : Fin 512) (k : Fin 1024) :
    (iblk m c 8 t (ix2 d k) : EReal) = V m c main_v12 (ix2 d k) := by
  blk_ext [ind8, iblk]

theorem blk_wd (c : Dev nD) (t : Fin cfg0.N) (d : Fin 512) (k : Fin 1024) :
    (iblk m c 9 t (ix2 d k) : EReal) = V m c main_v13 (ix2 d k) := by
  blk_ext [ind9, iblk]

theorem blk_ws (c : Dev nD) (t : Fin cfg0.N) (d : Fin 512) (k : Fin 1024) :
    (iblk m c 10 t (ix2 d k) : EReal) = V m c main_v14 (ix2 d k) := by
  blk_ext [ind10, iblk]

theorem blk_wo (c : Dev nD) (t : Fin cfg0.N) (d : Fin 1024) (k : Fin 1024) :
    (iblk m c 11 t (ix2 d k) : EReal) = V m c main_v15 (ix2 d k) := by
  blk_ext [ind11, iblk]

theorem blk_gf (c : Dev nD) (t : Fin cfg0.N) (k : Fin 1024) :
    (iblk m c 12 t (ix2 0 k) : EReal) = V m c main_v16 (ix2 0 k) := by
  blk_ext [ind12, iblk]

end Cert.MergeIdeal.Merge
end
-- ==== Proof.MergeBody.lean ====
module

public import proofs.«01_k».proof.Proof.Gen.MergeIdeal.Value
public import Idealize.ShloMosaic.Lib.Pipeline.ValueKit.Geometry
public import Idealize.ShloMosaic.Lib.Pointwise

@[expose] public section

/-! What the body leaves in its output block, from its input blocks. -/

set_option maxRecDepth 16384

noncomputable section

namespace Cert.MergeIdeal.Merge
open Cert.MergeIdeal Cert.MergeIdeal.Gen Idealize.ShloMosaic Idealize.ShloMosaic.TcCoe Idealize.SL.Sem

variable {F : FTy → Type} [FloatOps F] [Named F]

theorem out_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S512x1024 .f32) (harg14 : arg14.IsWhole)
    (x0 : Vec F S512x1024 .f32) (x1 : Vec F S1x1x1024 .f32) (x2 : Vec F S512x512 .bf16) (x3 : Vec F S512x512 .bf16) (x4 : Vec F S512x512 .bf16) (x5 : Vec F S512x1024 .bf16) (x6 : Vec F S512x1024 .bf16) (x7 : Vec F S512x1024 .bf16) (x8 : Vec F S512x1024 .bf16) (x9 : Vec F S512x1024 .bf16) (x10 : Vec F S512x1024 .bf16) (x11 : Vec F S1024x1024 .bf16) (x12 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = k0_pay1 (k0_pay2 x2 x8 x5 x3 x9 x6 x4 x10 x7) (k0_pay3 x0) x1 x11 x12 := by
  have h0 : (View.readAt (Elt F) arg1.view (Rect.unit ![0, 0] S512x1024.size inb_S512x1024_S512x1024_0_0).toLoadRect (harg1.unread x0)) = x0 := by
    rw [View.readAt_eq_ld, harg1.read_unread]
    exact View.ld_unit_zero (by decide) _ _
  have h1 : (View.readAt (Elt F) arg2.view (Rect.unit ![0, 0, 0] S1x1x1024.size inb_S1x1x1024_S1x1x1024_0_0_0).toLoadRect (harg2.unread x1)) = x1 := by
    rw [View.readAt_eq_ld, harg2.read_unread]
    exact View.ld_unit_zero (by decide) _ _
  have h2 : (View.readAt (Elt F) arg3.view (Rect.unit ![0, 0] S512x512.size inb_S512x512_S512x512_0_0).toLoadRect (harg3.unread x2)) = x2 := by
    rw [View.readAt_eq_ld, harg3.read_unread]
    exact View.ld_unit_zero (by decide) _ _
  have h3 : (View.readAt (Elt F) arg4.view (Rect.unit ![0, 0] S512x512.size inb_S512x512_S512x512_0_0).toLoadRect (harg4.unread x3)) = x3 := by
    rw [View.readAt_eq_ld, harg4.read_unread]
    exact View.ld_unit_zero (by decide) _ _
  have h4 : (View.readAt (Elt F) arg5.view (Rect.unit ![0, 0] S512x512.size inb_S512x512_S512x512_0_0).toLoadRect (harg5.unread x4)) = x4 := by
    rw [View.readAt_eq_ld, harg5.read_unread]
    exact View.ld_unit_zero (by decide) _ _
  have h5 : (View.readAt (Elt F) arg6.view (Rect.unit ![0, 0] S512x1024.size inb_S512x1024_S512x1024_0_0).toLoadRect (harg6.unread x5)) = x5 := by
    rw [View.readAt_eq_ld, harg6.read_unread]
    exact View.ld_unit_zero (by decide) _ _
  have h6 : (View.readAt (Elt F) arg7.view (Rect.unit ![0, 0] S512x1024.size inb_S512x1024_S512x1024_0_0).toLoadRect (harg7.unread x6)) = x6 := by
    rw [View.readAt_eq_ld, harg7.read_unread]
    exact View.ld_unit_zero (by decide) _ _
  have h7 : (View.readAt (Elt F) arg8.view (Rect.unit ![0, 0] S512x1024.size inb_S512x1024_S512x1024_0_0).toLoadRect (harg8.unread x7)) = x7 := by
    rw [View.readAt_eq_ld, harg8.read_unread]
    exact View.ld_unit_zero (by decide) _ _
  have h8 : (View.readAt (Elt F) arg9.view (Rect.unit ![0, 0] S512x1024.size inb_S512x1024_S512x1024_0_0).toLoadRect (harg9.unread x8)) = x8 := by
    rw [View.readAt_eq_ld, harg9.read_unread]
    exact View.ld_unit_zero (by decide) _ _
  have h9 : (View.readAt (Elt F) arg10.view (Rect.unit ![0, 0] S512x1024.size inb_S512x1024_S512x1024_0_0).toLoadRect (harg10.unread x9)) = x9 := by
    rw [View.readAt_eq_ld, harg10.read_unread]
    exact View.ld_unit_zero (by decide) _ _
  have h10 : (View.readAt (Elt F) arg11.view (Rect.unit ![0, 0] S512x1024.size inb_S512x1024_S512x1024_0_0).toLoadRect (harg11.unread x10)) = x10 := by
    rw [View.readAt_eq_ld, harg11.read_unread]
    exact View.ld_unit_zero (by decide) _ _
  have h11 : (View.readAt (Elt F) arg12.view (Rect.unit ![0, 0] S1024x1024.size inb_S1024x1024_S1024x1024_0_0).toLoadRect (harg12.unread x11)) = x11 := by
    rw [View.readAt_eq_ld, harg12.read_unread]
    exact View.ld_unit_zero (by decide) _ _
  have h12 : (View.readAt (Elt F) arg13.view (Rect.unit ![0, 0] S1x1024.size inb_S1x1024_S1x1024_0_0).toLoadRect (harg13.unread x12)) = x12 := by
    rw [View.readAt_eq_ld, harg13.read_unread]
    exact View.ld_unit_zero (by decide) _ _
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  rw [View.canon_unit_zero (by decide), h1, h11, h12]
  exact congrArg₂ (fun u v => k0_pay1 u v x1 x11 x12)
    (show k0_pay2 _ _ _ _ _ _ _ _ _ = _ by rw [h2, h8, h5, h3, h9, h6, h4, h10, h7])
    (congrArg k0_pay3 h0)

end Cert.MergeIdeal.Merge
end
-- ==== Proof.MergeRow.lean ====
module

public import proofs.«01_k».proof.Proof.Norm

@[expose] public section

/-! One row of the merge: three gated branches, the output projection and the residual. -/

noncomputable section

namespace Cert.MergeRow
open Idealize.ShloMosaic

/-- A row after the residual sum: the gated sum of the branches' projections, projected once more. -/
def res (x gate : Fin 1024 → EReal) (m0 m1 m2 : Fin 1024 → EReal) (yf yd ys : Fin 512 → EReal)
    (wf wd ws : Fin 512 → Fin 1024 → EReal) (wo : Fin 1024 → Fin 1024 → EReal) (j : Fin 1024) : EReal :=
  x j + gate j * ∑ k, (Ideal.logistic (m0 k) * (∑ d, yf d * wf d k) + Ideal.logistic (m1 k) * (∑ d, yd d * wd d k)
    + Ideal.logistic (m2 k) * (∑ d, ys d * ws d k)) * wo k j

end Cert.MergeRow
end
-- ==== Proof.MergeElem.lean ====
module

public import proofs.«01_k».proof.Proof.MergeBody
public import proofs.«01_k».proof.Proof.MergeRow

@[expose] public section

/-! The body's block at an index: one row of the merge, normalized. -/

set_option maxRecDepth 16384

noncomputable section

namespace Cert.MergeIdeal.Merge
open Cert.MergeIdeal Cert.MergeIdeal.Gen Idealize.ShloMosaic Idealize.ShloMosaic.TcCoe Idealize.SL.Sem Idealize.ShloMosaic.Pointwise Cert.Norm Cert.MergeRow

theorem elem (x0 : Vec Ideal S512x1024 .f32) (x1 : Vec Ideal S1x1x1024 .f32) (x2 : Vec Ideal S512x512 .bf16) (x3 : Vec Ideal S512x512 .bf16) (x4 : Vec Ideal S512x512 .bf16)
    (x5 x6 x7 x8 x9 x10 : Vec Ideal S512x1024 .bf16) (x11 : Vec Ideal S1024x1024 .bf16) (x12 : Vec Ideal S1x1024 .f32) (r : Fin 512) (j : Fin 1024) :
    (k0_pay1 (k0_pay2 x2 x8 x5 x3 x9 x6 x4 x10 x7) (k0_pay3 x0) x1 x11 x12 (ix2 r j) : EReal)
      = nrm (res (fun k => x0 (ix2 r k)) (fun k => x1 (ix3 0 0 k)) (fun k => x5 (ix2 r k)) (fun k => x6 (ix2 r k)) (fun k => x7 (ix2 r k))
          (fun d => x2 (ix2 r d)) (fun d => x3 (ix2 r d)) (fun d => x4 (ix2 r d))
          (fun d k => x8 (ix2 d k)) (fun d k => x9 (ix2 d k)) (fun d k => x10 (ix2 d k)) (fun k l => x11 (ix2 k l))) (fun k => x12 (ix2 0 k)) j := by
  unfold nrm fac res
  pointwise [k0_pay1, k0_pay2, k0_pay3]

end Cert.MergeIdeal.Merge
end
-- ==== Proof.MergeRef.lean ====
module

public import proofs.«01_k».proof.Proof.Gen.MergeRefIdeal.Read
public import proofs.«01_k».proof.Proof.MergeRow
public import Idealize.ShloMosaic.Lib.Pointwise

@[expose] public section

/-! The reference of the merge, at an index. -/

set_option maxRecDepth 16384

noncomputable section

namespace Cert.MergeRefIdeal.Merge
open Cert.MergeRefIdeal Cert.MergeRefIdeal.Gen Cert.MergeRefIdeal.Read Idealize.ShloMosaic Idealize.ShloMosaic.TcCoe Idealize.SL.Sem
open Idealize.ShloMosaic.Pointwise Idealize.ShloMosaic.StableHlo Cert.Norm Cert.MergeRow

variable (x0 : Vec Ideal S8x4096x1024 .f32) (x1 : Vec Ideal S8x1024 .f32) (x2 x3 x4 : Vec Ideal S8x4096x512 .f32) (x5 : Vec Ideal S8x4096x3072 .f32)
  (x6 x7 x8 : Vec Ideal S512x1024 .f32) (x9 : Vec Ideal S1024x1024 .f32) (x10 : Vec Ideal S1024 .f32)

/-- The residual sum. -/
theorem res_apply (b : Fin 8) (T : Fin 4096) (j : Fin 1024) :
    val_main_v21 (F := Ideal) x0 x1 x2 x3 x4 x5 x6 x7 x8 x9 (ix3 b T j)
      = res (fun k => x0 (ix3 b T k)) (fun k => x1 (ix2 b k)) (fun k => x5 (ix3 b T ⟨k.val, by omega⟩)) (fun k => x5 (ix3 b T ⟨1024 + k.val, by omega⟩)) (fun k => x5 (ix3 b T ⟨2048 + k.val, by omega⟩))
          (fun d => x2 (ix3 b T d)) (fun d => x3 (ix3 b T d)) (fun d => x4 (ix3 b T d))
          (fun d k => x6 (ix2 d k)) (fun d k => x7 (ix2 d k)) (fun d k => x8 (ix2 d k)) (fun k l => x9 (ix2 k l)) j := by
  unfold res
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

/-- The reference at an index: the normalized row. -/
theorem out_apply (R : Fin 32768) (j : Fin 1024) :
    val_main_v35 (F := Ideal) x0 x1 x2 x3 x4 x5 x6 x7 x8 x9 x10 (ix2 R j)
      = nrm (fun k => val_main_v21 (F := Ideal) x0 x1 x2 x3 x4 x5 x6 x7 x8 x9 (ix3 ⟨R.val / 4096, by omega⟩ ⟨R.val % 4096, by omega⟩ k)) (fun k => x10 (ix1 k)) j := by
  unfold nrm fac
  pointwise [val_main_v35, val_main_v34, val_main_v33, val_main_v32, val_main_v31, val_main_v30, val_main_v29, val_main_v28, val_main_v27, val_main_v26, val_main_v25, val_main_v24, val_main_v23, val_main_v22, val_main_cst_1, val_main_cst_2, val_main_cst_3]

end Cert.MergeRefIdeal.Merge
end
-- ==== Proof.MergeResult.lean ====
module

public import proofs.«01_k».proof.Proof.MergeBlocks
public import proofs.«01_k».proof.Proof.MergeBody
public import proofs.«01_k».proof.Proof.MergeElem
public import proofs.«01_k».proof.Proof.MergeRef

@[expose] public section

/-! The merge's result array is its reference's. -/

set_option maxRecDepth 16384

noncomputable section

namespace Cert.MergeIdeal.Merge
open Cert.MergeIdeal Cert.MergeIdeal.Gen Idealize.ShloMosaic Idealize.ShloMosaic.TcCoe Idealize.SL.Sem Idealize.ShloMosaic.Pointwise Cert.Norm Cert.MergeRow

variable (m : (ℓ : Loc nD τ sig) → Buf (Elt Ideal) ℓ)

/-- The reference's result from the kernel's arguments. -/
def G (c : Dev nD) : Vec Ideal S32768x1024 .f32 :=
  Cert.MergeRefIdeal.Read.val_main_v35 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The reference's residual sum at a row of a block is the row the body computes of its blocks. -/
theorem entry_res (c : Dev nD) (t : Fin cfg0.N) (r : Fin 512) (l : Fin 1024) :
    res (fun k => iblk m c 0 t (ix2 r k)) (fun k => iblk m c 1 t (ix3 0 0 k)) (fun k => X0_5 m c t (ix2 r k)) (fun k => X0_6 m c t (ix2 r k)) (fun k => X0_7 m c t (ix2 r k))
          (fun d => iblk m c 2 t (ix2 r d)) (fun d => iblk m c 3 t (ix2 r d)) (fun d => iblk m c 4 t (ix2 r d))
          (fun d k => iblk m c 8 t (ix2 d k)) (fun d k => iblk m c 9 t (ix2 d k)) (fun d k => iblk m c 10 t (ix2 d k)) (fun k l => iblk m c 11 t (ix2 k l)) l
      = Cert.MergeRefIdeal.Read.val_main_v21 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (ix3 ⟨(rowOf t r).val / 4096, by omega⟩ ⟨(rowOf t r).val % 4096, by omega⟩ l) := by
  have hb : batOf t = ⟨(rowOf t r).val / 4096, by omega⟩ := Fin.ext (by dsimp only; omega)
  refine Eq.trans ?_ (Cert.MergeRefIdeal.Merge.res_apply _ _ _ _ _ _ _ _ _ _ _ _ l).symm
  congr 1
  · funext k; exact (blk_x m c t r k).trans (op_x m c _ k)
  · funext k; exact (blk_gate m c t k).trans ((op_gate m c _ k).trans (by rw [hb]))
  · funext k; exact (blk_m0 m c t r k).trans (op_m m c _ _ _ rfl)
  · funext k; exact (blk_m1 m c t r k).trans (op_m m c _ _ _ rfl)
  · funext k; exact (blk_m2 m c t r k).trans (op_m m c _ _ _ rfl)
  · funext d; exact (blk_yf m c t r d).trans (op_yf m c _ d)
  · funext d; exact (blk_yd m c t r d).trans (op_yd m c _ d)
  · funext d; exact (blk_ys m c t r d).trans (op_ys m c _ d)
  · funext d k; exact (blk_wf m c t d k).trans (op_wf m c d k)
  · funext d k; exact (blk_wd m c t d k).trans (op_wd m c d k)
  · funext d k; exact (blk_ws m c t d k).trans (op_ws m c d k)
  · funext d k; exact (blk_wo m c t d k).trans (op_wo m c d k)

/-- The reference at a row of a block is the normalized row. -/
theorem entry (c : Dev nD) (t : Fin cfg0.N) (r : Fin 512) (j : Fin 1024) :
    nrm (res (fun k => iblk m c 0 t (ix2 r k)) (fun k => iblk m c 1 t (ix3 0 0 k)) (fun k => X0_5 m c t (ix2 r k)) (fun k => X0_6 m c t (ix2 r k)) (fun k => X0_7 m c t (ix2 r k))
          (fun d => iblk m c 2 t (ix2 r d)) (fun d => iblk m c 3 t (ix2 r d)) (fun d => iblk m c 4 t (ix2 r d))
          (fun d k => iblk m c 8 t (ix2 d k)) (fun d k => iblk m c 9 t (ix2 d k)) (fun d k => iblk m c 10 t (ix2 d k)) (fun k l => iblk m c 11 t (ix2 k l)))
        (fun k => iblk m c 12 t (ix2 0 k)) j
      = G m c (ix2 (rowOf t r) j) := by
  refine Eq.trans ?_ (Cert.MergeRefIdeal.Merge.out_apply _ _ _ _ _ _ _ _ _ _ _ (rowOf t r) j).symm
  congr 1
  · funext l; exact entry_res m c t r l
  · funext k; exact (blk_gf m c t k).trans (op_gf m c k)

theorem final (c : Dev nD) : (dats m 0 c).arrAt 13 cfg0.N = G m c := by
  refine (dats m 0 c).arrAt_eq_of_covers 13 _ (by decide +kernel) fun t hf y => ?_
  blk_simp
  idx_vars y
  rw [after0_13]
  unfold outsAt0
  rw [out_eq]
  refine ((elem (iblk m c 0 t) (iblk m c 1 t) (iblk m c 2 t) (iblk m c 3 t) (iblk m c 4 t) (X0_5 m c t) (X0_6 m c t) (X0_7 m c t)
    (iblk m c 8 t) (iblk m c 9 t) (iblk m c 10 t) (iblk m c 11 t) (iblk m c 12 t) y0 y1).trans (entry m c t y0 y1)).trans ?_
  blk_ext [ind13]
  all_goals (dsimp only [rowOf]; omega)

end Cert.MergeIdeal.Merge
end
-- ==== Proof.SmallColumns.lean ====
module

public import proofs.«01_k».proof.Proof.Norm

@[expose] public section

/-! Which column of the input weights each column of the small projection reads, which it reads negated, and which are zero. -/

noncomputable section

namespace Cert.SmallColumns
open Idealize.ShloMosaic

/-- The columns of zeros between the gates and the latent columns. -/
def Pad (y : ℕ) : Prop := 1040 ≤ y ∧ y < 1152
instance (y : ℕ) : Decidable (Pad y) := inferInstanceAs (Decidable (_ ∧ _))

/-- The half-head columns of the rotated indexer's queries and keys that are negated. -/
def Flip (y : ℕ) : Prop := ((512 ≤ y ∧ y < 1024) ∨ 1408 ≤ y) ∧ y % 64 < 32
instance (y : ℕ) : Decidable (Flip y) := inferInstanceAs (Decidable (_ ∧ _))

/-- The source of a column that is not zero: the indexer's queries and their rotation, the forget gates, the indexer's
    weights, the latent columns, the indexer's keys twice and their rotation twice. -/
def src (y : ℕ) : ℕ :=
  if y < 512 then y + 2696 else if y < 1024 then (if y % 64 < 32 then y + 2216 else y + 2152)
  else if y < 1032 then y + 512 else if y < 1040 then y + 2240 else if y < 1152 then 0
  else if y < 1280 then y + 1416 else if y < 1344 then y + 1928 else if y < 1408 then y + 1864
  else if y < 1472 then (if y % 64 < 32 then y + 1832 else y + 1768)
  else (if y % 64 < 32 then y + 1768 else y + 1704)

/-! The source, piece by piece. -/

theorem src_iq {y : ℕ} (hu : y < 512) : src y = y + 2696 := by
  rw [src, if_pos hu]
theorem src_iqf {y : ℕ} (hl : 512 ≤ y) (hu : y < 1024) (hr : y % 64 < 32) : src y = y + 2216 := by
  rw [src, if_neg (show ¬y < 512 by omega), if_pos hu, if_pos hr]
theorem src_iqk {y : ℕ} (hl : 512 ≤ y) (hu : y < 1024) (hr : ¬y % 64 < 32) : src y = y + 2152 := by
  rw [src, if_neg (show ¬y < 512 by omega), if_pos hu, if_neg hr]
theorem src_ff {y : ℕ} (hl : 1024 ≤ y) (hu : y < 1032) : src y = y + 512 := by
  rw [src, if_neg (show ¬y < 512 by omega), if_neg (show ¬y < 1024 by omega), if_pos hu]
theorem src_iw {y : ℕ} (hl : 1032 ≤ y) (hu : y < 1040) : src y = y + 2240 := by
  rw [src, if_neg (show ¬y < 512 by omega), if_neg (show ¬y < 1024 by omega), if_neg (show ¬y < 1032 by omega), if_pos hu]
theorem src_pad {y : ℕ} (hl : 1040 ≤ y) (hu : y < 1152) : src y = 0 := by
  rw [src, if_neg (show ¬y < 512 by omega), if_neg (show ¬y < 1024 by omega), if_neg (show ¬y < 1032 by omega), if_neg (show ¬y < 1040 by omega), if_pos hu]
theorem src_kv {y : ℕ} (hl : 1152 ≤ y) (hu : y < 1280) : src y = y + 1416 := by
  rw [src, if_neg (show ¬y < 512 by omega), if_neg (show ¬y < 1024 by omega), if_neg (show ¬y < 1032 by omega), if_neg (show ¬y < 1040 by omega), if_neg (show ¬y < 1152 by omega), if_pos hu]
theorem src_ik {y : ℕ} (hl : 1280 ≤ y) (hu : y < 1344) : src y = y + 1928 := by
  rw [src, if_neg (show ¬y < 512 by omega), if_neg (show ¬y < 1024 by omega), if_neg (show ¬y < 1032 by omega), if_neg (show ¬y < 1040 by omega), if_neg (show ¬y < 1152 by omega), if_neg (show ¬y < 1280 by omega), if_pos hu]
theorem src_ik2 {y : ℕ} (hl : 1344 ≤ y) (hu : y < 1408) : src y = y + 1864 := by
  rw [src, if_neg (show ¬y < 512 by omega), if_neg (show ¬y < 1024 by omega), if_neg (show ¬y < 1032 by omega), if_neg (show ¬y < 1040 by omega), if_neg (show ¬y < 1152 by omega), if_neg (show ¬y < 1280 by omega), if_neg (show ¬y < 1344 by omega), if_pos hu]
theorem src_rf {y : ℕ} (hl : 1408 ≤ y) (hu : y < 1472) (hr : y % 64 < 32) : src y = y + 1832 := by
  rw [src, if_neg (show ¬y < 512 by omega), if_neg (show ¬y < 1024 by omega), if_neg (show ¬y < 1032 by omega), if_neg (show ¬y < 1040 by omega), if_neg (show ¬y < 1152 by omega), if_neg (show ¬y < 1280 by omega), if_neg (show ¬y < 1344 by omega), if_neg (show ¬y < 1408 by omega), if_pos hu, if_pos hr]
theorem src_rk {y : ℕ} (hl : 1408 ≤ y) (hu : y < 1472) (hr : ¬y % 64 < 32) : src y = y + 1768 := by
  rw [src, if_neg (show ¬y < 512 by omega), if_neg (show ¬y < 1024 by omega), if_neg (show ¬y < 1032 by omega), if_neg (show ¬y < 1040 by omega), if_neg (show ¬y < 1152 by omega), if_neg (show ¬y < 1280 by omega), if_neg (show ¬y < 1344 by omega), if_neg (show ¬y < 1408 by omega), if_pos hu, if_neg hr]
theorem src_sf {y : ℕ} (hl : 1472 ≤ y) (hr : y % 64 < 32) : src y = y + 1768 := by
  rw [src, if_neg (show ¬y < 512 by omega), if_neg (show ¬y < 1024 by omega), if_neg (show ¬y < 1032 by omega), if_neg (show ¬y < 1040 by omega), if_neg (show ¬y < 1152 by omega), if_neg (show ¬y < 1280 by omega), if_neg (show ¬y < 1344 by omega), if_neg (show ¬y < 1408 by omega), if_neg (show ¬y < 1472 by omega), if_pos hr]
theorem src_sk {y : ℕ} (hl : 1472 ≤ y) (hr : ¬y % 64 < 32) : src y = y + 1704 := by
  rw [src, if_neg (show ¬y < 512 by omega), if_neg (show ¬y < 1024 by omega), if_neg (show ¬y < 1032 by omega), if_neg (show ¬y < 1040 by omega), if_neg (show ¬y < 1152 by omega), if_neg (show ¬y < 1280 by omega), if_neg (show ¬y < 1344 by omega), if_neg (show ¬y < 1408 by omega), if_neg (show ¬y < 1472 by omega), if_neg hr]

theorem src_lt (y : Fin 1536) : src y.val < 8912 := by
  have := y.isLt
  by_cases hr : y.val % 64 < 32
  · by_cases h0 : y.val < 512
    · rw [src_iq h0]; omega
    by_cases h1024 : y.val < 1024
    · rw [src_iqf (by omega) h1024 hr]; omega
    by_cases h1032 : y.val < 1032
    · rw [src_ff (by omega) h1032]; omega
    by_cases h1040 : y.val < 1040
    · rw [src_iw (by omega) h1040]; omega
    by_cases h1152 : y.val < 1152
    · rw [src_pad (by omega) h1152]; omega
    by_cases h1280 : y.val < 1280
    · rw [src_kv (by omega) h1280]; omega
    by_cases h1344 : y.val < 1344
    · rw [src_ik (by omega) h1344]; omega
    by_cases h1408 : y.val < 1408
    · rw [src_ik2 (by omega) h1408]; omega
    by_cases h1472 : y.val < 1472
    · rw [src_rf (by omega) h1472 hr]; omega
    rw [src_sf (by omega) hr]; omega
  · by_cases h0 : y.val < 512
    · rw [src_iq h0]; omega
    by_cases h1024 : y.val < 1024
    · rw [src_iqk (by omega) h1024 hr]; omega
    by_cases h1032 : y.val < 1032
    · rw [src_ff (by omega) h1032]; omega
    by_cases h1040 : y.val < 1040
    · rw [src_iw (by omega) h1040]; omega
    by_cases h1152 : y.val < 1152
    · rw [src_pad (by omega) h1152]; omega
    by_cases h1280 : y.val < 1280
    · rw [src_kv (by omega) h1280]; omega
    by_cases h1344 : y.val < 1344
    · rw [src_ik (by omega) h1344]; omega
    by_cases h1408 : y.val < 1408
    · rw [src_ik2 (by omega) h1408]; omega
    by_cases h1472 : y.val < 1472
    · rw [src_rk (by omega) h1472 hr]; omega
    rw [src_sk (by omega) hr]; omega

/-- A column of the projection from the columns of its source. -/
def col (f : Fin 8912 → EReal) (y : Fin 1536) : EReal :=
  if Pad y.val then 0 else if Flip y.val then -f ⟨src y.val, src_lt y⟩ else f ⟨src y.val, src_lt y⟩

theorem col_keep (f : Fin 8912 → EReal) (y : Fin 1536) (s : ℕ) (hs : s < 8912) (hp : ¬Pad y.val) (h : ¬Flip y.val) (e : s = src y.val) : f ⟨s, hs⟩ = col f y := by
  unfold col
  rw [if_neg hp, if_neg h]
  exact congrArg f (Fin.ext e)

theorem col_flip (f : Fin 8912 → EReal) (y : Fin 1536) (s : ℕ) (hs : s < 8912) (hp : ¬Pad y.val) (h : Flip y.val) (e : s = src y.val) : -f ⟨s, hs⟩ = col f y := by
  unfold col
  rw [if_neg hp, if_pos h]
  exact congrArg (fun z => -f z) (Fin.ext e)

theorem col_pad (f : Fin 8912 → EReal) (y : Fin 1536) (hp : Pad y.val) : 0 = col f y := by
  unfold col
  rw [if_pos hp]

theorem zero_word : Ideal.ofBits .f32 0x00000000#32 = 0 := by
  simp [Ideal.ofBits, Ideal.ieee]

/-- A row times a column: the negated columns leave the sum, and the columns of zeros give zero. -/
theorem sum_col (h : Fin 1024 → EReal) (w : Fin 1024 → Fin 8912 → EReal) (hh : ∀ k, Cert.Norm.Real' (h k)) (hw : ∀ k s, Cert.Norm.Real' (w k s)) (y : Fin 1536) :
    (∑ k, h k * col (w k) y) = col (fun s => ∑ k, h k * w k s) y := by
  unfold col
  split_ifs
  · exact Finset.sum_eq_zero fun k _ => mul_zero _
  · exact Cert.Norm.sum_neg h (fun k => w k _) hh (fun k => hw k _)
  · rfl

end Cert.SmallColumns
end
-- ==== Proof.SmallBlocks.lean ====
module

public import proofs.«01_k».proof.Proof.Gen.SmallIdeal.Value
public import proofs.«01_k».proof.Proof.SmallColumns
public import Idealize.ShloMosaic.Lib.Pipeline.ValueKit.Geometry
public import Idealize.ShloMosaic.Lib.StableHlo.ReadAt
public import Idealize.ShloMosaic.Lib.Pointwise

@[expose] public section

/-! The small projection's operands and its blocks of them, read at an index. -/

set_option maxRecDepth 200000

noncomputable section

namespace Cert.SmallIdeal.Small
open Cert.SmallIdeal Cert.SmallIdeal.Gen Idealize.ShloMosaic Idealize.ShloMosaic.TcCoe Idealize.SL.Sem Idealize.ShloMosaic.Pointwise Cert.SmallColumns

variable (m : (ℓ : Loc nD τ sig) → Buf (Elt Ideal) ℓ)

/-! ## The operands -/

theorem op_x (c : Dev nD) (R : Fin 32768) (k : Fin 1024) :
    (V m c main_v0 (ix2 R k) : EReal) = m ((c : Thread nD τ).loc main_arg0) (ix3 ⟨R.val / 4096, by omega⟩ ⟨R.val % 4096, by omega⟩ k) := by
  unfold V
  after_reads_at

theorem op_g (c : Dev nD) (k : Fin 1024) :
    (V m c main_v32 (ix2 0 k) : EReal) = m ((c : Thread nD τ).loc main_arg1) (ix1 k) := by
  unfold V
  after_reads_at

theorem op_scale (c : Dev nD) (b : Fin 8) (k : Fin 1024) :
    (V m c main_v33 (ix3 b 0 k) : EReal) = m ((c : Thread nD τ).loc main_arg2) (ix2 b k) := by
  unfold V
  after_reads_at

theorem op_shift (c : Dev nD) (b : Fin 8) (k : Fin 1024) :
    (V m c main_v34 (ix3 b 0 k) : EReal) = m ((c : Thread nD τ).loc main_arg3) (ix2 b k) := by
  unfold V
  after_reads_at

set_option maxHeartbeats 4000000 in
theorem op_w (c : Dev nD) (k : Fin 1024) (y : Fin 1536) :
    (V m c main_v31 (ix2 k y) : EReal) = col (fun s => m ((c : Thread nD τ).loc main_arg4) (ix2 k s)) y := by
  unfold V
  after_reads_at
  have hy := y.isLt
  by_cases h0 : y.val < 512
  · rw [dif_pos h0]
    after_reads_at
    exact col_keep (fun s => m ((c : Thread nD τ).loc main_arg4) (ix2 k s)) y _ _ (by unfold Pad; omega) (by unfold Flip; omega) (by rw [src_iq (by omega)]; omega)
  rw [dif_neg h0]
  by_cases h1 : y.val - 512 < 512
  · rw [dif_pos h1]
    after_reads_at
    by_cases hr : (y.val - 512) / 32 % 2 < 1
    · rw [dif_pos hr]
      after_reads_at
      exact col_flip (fun s => m ((c : Thread nD τ).loc main_arg4) (ix2 k s)) y _ _ (by unfold Pad; omega) (by unfold Flip; omega) (by rw [src_iqf (by omega) (by omega) (by omega)]; omega)
    · rw [dif_neg hr]
      after_reads_at
      exact col_keep (fun s => m ((c : Thread nD τ).loc main_arg4) (ix2 k s)) y _ _ (by unfold Pad; omega) (by unfold Flip; omega) (by rw [src_iqk (by omega) (by omega) (by omega)]; omega)
  rw [dif_neg h1]
  by_cases h2 : y.val - 512 - 512 < 8
  · rw [dif_pos h2]
    after_reads_at
    exact col_keep (fun s => m ((c : Thread nD τ).loc main_arg4) (ix2 k s)) y _ _ (by unfold Pad; omega) (by unfold Flip; omega) (by rw [src_ff (by omega) (by omega)]; omega)
  rw [dif_neg h2]
  by_cases h3 : y.val - 512 - 512 - 8 < 8
  · rw [dif_pos h3]
    after_reads_at
    exact col_keep (fun s => m ((c : Thread nD τ).loc main_arg4) (ix2 k s)) y _ _ (by unfold Pad; omega) (by unfold Flip; omega) (by rw [src_iw (by omega) (by omega)]; omega)
  rw [dif_neg h3]
  by_cases h4 : y.val - 512 - 512 - 8 - 8 < 112
  · rw [dif_pos h4]
    after_reads_at
    exact col_pad (fun s => m ((c : Thread nD τ).loc main_arg4) (ix2 k s)) y (by unfold Pad; omega)
  rw [dif_neg h4]
  by_cases h5 : y.val - 512 - 512 - 8 - 8 - 112 < 128
  · rw [dif_pos h5]
    after_reads_at
    exact col_keep (fun s => m ((c : Thread nD τ).loc main_arg4) (ix2 k s)) y _ _ (by unfold Pad; omega) (by unfold Flip; omega) (by rw [src_kv (by omega) (by omega)]; omega)
  rw [dif_neg h5]
  by_cases h6 : y.val - 512 - 512 - 8 - 8 - 112 - 128 < 64
  · rw [dif_pos h6]
    after_reads_at
    exact col_keep (fun s => m ((c : Thread nD τ).loc main_arg4) (ix2 k s)) y _ _ (by unfold Pad; omega) (by unfold Flip; omega) (by rw [src_ik (by omega) (by omega)]; omega)
  rw [dif_neg h6]
  by_cases h7 : y.val - 512 - 512 - 8 - 8 - 112 - 128 - 64 < 64
  · rw [dif_pos h7]
    after_reads_at
    exact col_keep (fun s => m ((c : Thread nD τ).loc main_arg4) (ix2 k s)) y _ _ (by unfold Pad; omega) (by unfold Flip; omega) (by rw [src_ik2 (by omega) (by omega)]; omega)
  rw [dif_neg h7]
  by_cases h8 : y.val - 512 - 512 - 8 - 8 - 112 - 128 - 64 - 64 < 64
  · rw [dif_pos h8]
    after_reads_at
    by_cases hr : (y.val - 512 - 512 - 8 - 8 - 112 - 128 - 64 - 64) / 32 < 1
    · rw [dif_pos hr]
      after_reads_at
      exact col_flip (fun s => m ((c : Thread nD τ).loc main_arg4) (ix2 k s)) y _ _ (by unfold Pad; omega) (by unfold Flip; omega) (by rw [src_rf (by omega) (by omega) (by omega)]; omega)
    · rw [dif_neg hr]
      after_reads_at
      exact col_keep (fun s => m ((c : Thread nD τ).loc main_arg4) (ix2 k s)) y _ _ (by unfold Pad; omega) (by unfold Flip; omega) (by rw [src_rk (by omega) (by omega) (by omega)]; omega)
  rw [dif_neg h8]
  after_reads_at
  by_cases hr : (y.val - 512 - 512 - 8 - 8 - 112 - 128 - 64 - 64 - 64) / 32 < 1
  · rw [dif_pos hr]
    after_reads_at
    exact col_flip (fun s => m ((c : Thread nD τ).loc main_arg4) (ix2 k s)) y _ _ (by unfold Pad; omega) (by unfold Flip; omega) (by rw [src_sf (by omega) (by omega)]; omega)
  · rw [dif_neg hr]
    after_reads_at
    exact col_keep (fun s => m ((c : Thread nD τ).loc main_arg4) (ix2 k s)) y _ _ (by unfold Pad; omega) (by unfold Flip; omega) (by rw [src_sk (by omega) (by omega)]; omega)

/-! ## The blocks -/

theorem ind0 : ∀ t : Fin cfg0.N, win0_0.index t = ![t.val / 3, 0] := (by decide +kernel : ∀ t : Fin grid0.N, _)
theorem ind1 : ∀ t : Fin cfg0.N, win0_1.index t = ![0, 0] := (by decide +kernel : ∀ t : Fin grid0.N, _)
theorem ind2 : ∀ t : Fin cfg0.N, win0_2.index t = ![t.val / 3 / 4, 0, 0] := (by decide +kernel : ∀ t : Fin grid0.N, _)
theorem ind3 : ∀ t : Fin cfg0.N, win0_3.index t = ![t.val / 3 / 4, 0, 0] := (by decide +kernel : ∀ t : Fin grid0.N, _)
theorem ind4 : ∀ t : Fin cfg0.N, win0_4.index t = ![0, t.val % 3] := (by decide +kernel : ∀ t : Fin grid0.N, _)
theorem ind5 : ∀ t : Fin cfg0.N, win0_5.index t = ![t.val / 3, t.val % 3] := (by decide +kernel : ∀ t : Fin grid0.N, _)

theorem lt_N (t : Fin cfg0.N) : t.val < 96 := N_0 ▸ t.isLt

/-- The row of the array a row of a block is. -/
abbrev rowOf (t : Fin cfg0.N) (r : Fin 1024) : Fin 32768 := ⟨1024 * (t.val / 3) + r.val, by have := lt_N t; omega⟩
/-- The batch of a block. -/
abbrev batOf (t : Fin cfg0.N) : Fin 8 := ⟨t.val / 3 / 4, by have := lt_N t; omega⟩
/-- The column of the array a column of a block is. -/
abbrev colOf (t : Fin cfg0.N) (j : Fin 512) : Fin 1536 := ⟨512 * (t.val % 3) + j.val, by omega⟩

theorem blk_x (c : Dev nD) (t : Fin cfg0.N) (r : Fin 1024) (k : Fin 1024) :
    (iblk m c 0 t (ix2 r k) : EReal) = V m c main_v0 (ix2 (rowOf t r) k) := by
  blk_ext [ind0, iblk]
  all_goals (dsimp only [rowOf]; omega)

theorem blk_g (c : Dev nD) (t : Fin cfg0.N) (k : Fin 1024) :
    (iblk m c 1 t (ix2 0 k) : EReal) = V m c main_v32 (ix2 0 k) := by
  blk_ext [ind1, iblk]

theorem blk_scale (c : Dev nD) (t : Fin cfg0.N) (k : Fin 1024) :
    (iblk m c 2 t (ix3 0 0 k) : EReal) = V m c main_v33 (ix3 (batOf t) 0 k) := by
  blk_ext [ind2, iblk]
  all_goals (dsimp only [batOf]; omega)

theorem blk_shift (c : Dev nD) (t : Fin cfg0.N) (k : Fin 1024) :
    (iblk m c 3 t (ix3 0 0 k) : EReal) = V m c main_v34 (ix3 (batOf t) 0 k) := by
  blk_ext [ind3, iblk]
  all_goals (dsimp only [batOf]; omega)

theorem blk_w (c : Dev nD) (t : Fin cfg0.N) (k : Fin 1024) (j : Fin 512) :
    (iblk m c 4 t (ix2 k j) : EReal) = V m c main_v31 (ix2 k (colOf t j)) := by
  blk_ext [ind4, iblk]
  all_goals (dsimp only [colOf]; omega)

end Cert.SmallIdeal.Small
end
-- ==== Proof.SmallBody.lean ====
module

public import proofs.«01_k».proof.Proof.Gen.SmallIdeal.Value
public import Idealize.ShloMosaic.Lib.Pipeline.ValueKit.Geometry
public import Idealize.ShloMosaic.Lib.Pointwise

@[expose] public section

/-! What the small projection's body leaves in its output block and in the rows it carries along. -/

set_option maxRecDepth 16384

noncomputable section

namespace Cert.SmallIdeal.Small
open Cert.SmallIdeal Cert.SmallIdeal.Gen Idealize.ShloMosaic Idealize.ShloMosaic.TcCoe Idealize.SL.Sem

variable {F : FTy → Type} [FloatOps F] [Named F]

/-- At the first block of columns of a row: the normalized rows are made and kept. -/
theorem soutA_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1x1024 .f32) (x3 : Vec F S1x1x1024 .f32) (x4 : Vec F S1024x512 .bf16) :
    sout0_A_0 c i arg2 harg2 arg3 harg3 arg4 harg4 arg5 harg5 arg6 harg6 arg7 harg7 arg8 harg8 hc0 x0 x1 x2 x3 x4 = k0_pay1 x0 x1 x2 x3 := by
  have h0 : (View.readAt (Elt F) arg2.view (Rect.unit ![0, 0] S1024x1024.size inb_S1024x1024_S1024x1024_0_0).toLoadRect (harg2.unread x0)) = x0 := by
    rw [View.readAt_eq_ld, harg2.read_unread]
    exact View.ld_unit_zero (by decide) _ _
  have h1 : (View.readAt (Elt F) arg3.view (Rect.unit ![0, 0] S1x1024.size inb_S1x1024_S1x1024_0_0).toLoadRect (harg3.unread x1)) = x1 := by
    rw [View.readAt_eq_ld, harg3.read_unread]
    exact View.ld_unit_zero (by decide) _ _
  have h2 : (View.readAt (Elt F) arg4.view (Rect.unit ![0, 0, 0] S1x1x1024.size inb_S1x1x1024_S1x1x1024_0_0_0).toLoadRect (harg4.unread x2)) = x2 := by
    rw [View.readAt_eq_ld, harg4.read_unread]
    exact View.ld_unit_zero (by decide) _ _
  have h3 : (View.readAt (Elt F) arg5.view (Rect.unit ![0, 0, 0] S1x1x1024.size inb_S1x1x1024_S1x1x1024_0_0_0).toLoadRect (harg5.unread x3)) = x3 := by
    rw [View.readAt_eq_ld, harg5.read_unread]
    exact View.ld_unit_zero (by decide) _ _
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  unfold kernelRun0_A.sl.HS0_1
  try dsimp only
  rw [View.canon_unit_zero (by decide), h0, h1, h2, h3]

/-- … and multiplied by the block of columns. -/
theorem outA_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1x1024 .f32) (x3 : Vec F S1x1x1024 .f32) (x4 : Vec F S1024x512 .bf16) :
    out0_A_5 c i arg2 harg2 arg3 harg3 arg4 harg4 arg5 harg5 arg6 harg6 arg7 harg7 arg8 harg8 hc0 x0 x1 x2 x3 x4 = k0_pay2 (k0_pay1 x0 x1 x2 x3) x4 := by
  have h0 : (View.readAt (Elt F) arg2.view (Rect.unit ![0, 0] S1024x1024.size inb_S1024x1024_S1024x1024_0_0).toLoadRect (harg2.unread x0)) = x0 := by
    rw [View.readAt_eq_ld, harg2.read_unread]
    exact View.ld_unit_zero (by decide) _ _
  have h1 : (View.readAt (Elt F) arg3.view (Rect.unit ![0, 0] S1x1024.size inb_S1x1024_S1x1024_0_0).toLoadRect (harg3.unread x1)) = x1 := by
    rw [View.readAt_eq_ld, harg3.read_unread]
    exact View.ld_unit_zero (by decide) _ _
  have h2 : (View.readAt (Elt F) arg4.view (Rect.unit ![0, 0, 0] S1x1x1024.size inb_S1x1x1024_S1x1x1024_0_0_0).toLoadRect (harg4.unread x2)) = x2 := by
    rw [View.readAt_eq_ld, harg4.read_unread]
    exact View.ld_unit_zero (by decide) _ _
  have h3 : (View.readAt (Elt F) arg5.view (Rect.unit ![0, 0, 0] S1x1x1024.size inb_S1x1x1024_S1x1x1024_0_0_0).toLoadRect (harg5.unread x3)) = x3 := by
    rw [View.readAt_eq_ld, harg5.read_unread]
    exact View.ld_unit_zero (by decide) _ _
  have h4 : (View.readAt (Elt F) arg6.view (Rect.unit ![0, 0] S1024x512.size inb_S1024x512_S1024x512_0_0).toLoadRect (harg6.unread x4)) = x4 := by
    rw [View.readAt_eq_ld, harg6.read_unread]
    exact View.ld_unit_zero (by decide) _ _
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  rw [View.canon_unit_zero (by decide), h4]
  refine congrArg (fun z => k0_pay2 z x4) ?_
  refine (View.readCov_cons_toLoadRect arg8.view _ _ []).trans ?_
  rw [h0, h1, h2, h3]

/-- At a later block of columns: the kept rows, multiplied. -/
theorem outB_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1x1024 .f32) (x3 : Vec F S1x1x1024 .f32) (x4 : Vec F S1024x512 .bf16) (xs0 : Vec F S1024x1024 .bf16) :
    out0_B_5 c i arg2 harg2 arg3 harg3 arg4 harg4 arg5 harg5 arg6 harg6 arg7 harg7 arg8 harg8 hc0 x0 x1 x2 x3 x4 xs0 = k0_pay2 xs0 x4 := by
  have h4 : (View.readAt (Elt F) arg6.view (Rect.unit ![0, 0] S1024x512.size inb_S1024x512_S1024x512_0_0).toLoadRect (harg6.unread x4)) = x4 := by
    rw [View.readAt_eq_ld, harg6.read_unread]
    exact View.ld_unit_zero (by decide) _ _
  have h5 : (View.readAt (Elt F) arg8.view (Rect.unit ![0, 0] S1024x1024.size inb_S1024x1024_S1024x1024_0_0).toLoadRect (harg8.unread xs0)) = xs0 := by
    rw [View.readAt_eq_ld, harg8.read_unread]
    exact View.ld_unit_zero (by decide) _ _
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero (by decide), h4, h5]

end Cert.SmallIdeal.Small
end
-- ==== Proof.SmallElem.lean ====
module

public import proofs.«01_k».proof.Proof.SmallBody
public import proofs.«01_k».proof.Proof.ProjElem
public import Idealize.ShloMosaic.Lib.Pointwise

@[expose] public section

/-! The small projection's body at an index. -/

set_option maxRecDepth 16384

noncomputable section

namespace Cert.SmallIdeal.Small
open Cert.SmallIdeal Cert.SmallIdeal.Gen Idealize.ShloMosaic Idealize.ShloMosaic.TcCoe Idealize.SL.Sem Idealize.ShloMosaic.Pointwise Cert.Norm

/-- The rows kept are the main projection's. -/
theorem kept_apply (x0 : Vec Ideal S1024x1024 .f32) (x1 : Vec Ideal S1x1024 .f32) (x2 x3 : Vec Ideal S1x1x1024 .f32) (r k : Fin 1024) :
    (k0_pay1 x0 x1 x2 x3 (ix2 r k) : EReal)
      = row (fun k => x0 (ix2 r k)) (fun k => x1 (ix2 0 k)) (fun k => x2 (ix3 0 0 k)) (fun k => x3 (ix3 0 0 k)) k :=
  Cert.ProjectionIdeal.Proj.kept_apply x0 x1 x2 x3 r k

/-- The block written: kept rows times a block of columns. -/
theorem prod_apply (h : Vec Ideal S1024x1024 .bf16) (w : Vec Ideal S1024x512 .bf16) (r : Fin 1024) (j : Fin 512) :
    (k0_pay2 h w (ix2 r j) : EReal) = ∑ k : Fin 1024, h (ix2 r k) * w (ix2 k j) := by
  pointwise [k0_pay2]

end Cert.SmallIdeal.Small
end
-- ==== Proof.SmallRef.lean ====
module

public import proofs.«01_k».proof.Proof.Gen.SmallRefIdeal.Read
public import proofs.«01_k».proof.Proof.SmallColumns
public import proofs.«01_k».proof.Proof.ProjRef
public import Idealize.ShloMosaic.Lib.Pointwise

@[expose] public section

/-! The reference of the small projection, at an index. -/

set_option maxRecDepth 16384

noncomputable section

namespace Cert.SmallRefIdeal.Small
open Cert.SmallRefIdeal Cert.SmallRefIdeal.Gen Cert.SmallRefIdeal.Read Idealize.ShloMosaic Idealize.ShloMosaic.TcCoe Idealize.SL.Sem
open Idealize.ShloMosaic.Pointwise Idealize.ShloMosaic.StableHlo Cert.Norm Cert.SmallColumns

variable (x0 : Vec Ideal S8x4096x1024 .f32) (x1 : Vec Ideal S1024 .f32) (x2 x3 : Vec Ideal S8x1024 .f32) (x4 : Vec Ideal S1024x8912 .f32)

/-- The product, all columns, is the one in the main projection's reference. -/
theorem prod_eq : val_main_v21 (F := Ideal) x0 x1 x2 x3 x4 = Cert.ProjectionRefIdeal.Read.val_main_v21 (F := Ideal) x0 x1 x2 x3 x4 := rfl

set_option maxRecDepth 200000 in
set_option maxHeartbeats 4000000 in
/-- The columns in the kernel's order. -/
theorem cols_apply (b : Fin 8) (T : Fin 4096) (y : Fin 1536) :
    val_main_v49 (F := Ideal) x0 x1 x2 x3 x4 (ix3 b T y) = col (fun s => val_main_v21 (F := Ideal) x0 x1 x2 x3 x4 (ix3 b T s)) y := by
  pointwise [val_main_v49, val_main_v48, val_main_cst_3, val_main_v47, val_main_v46, val_main_v45, val_main_v44, val_main_v43, val_main_v42, val_main_v41, val_main_v40, val_main_v39, val_main_v38, val_main_v25, val_main_v28, val_main_v29, val_main_v30, val_main_v31]
  have hy := y.isLt
  by_cases h0 : y.val < 512
  · rw [dif_pos h0]
    exact col_keep (fun s => val_main_v21 (F := Ideal) x0 x1 x2 x3 x4 (ix3 b T s)) y _ _ (by unfold Pad; omega) (by unfold Flip; omega) (by rw [src_iq (by omega)]; omega)
  rw [dif_neg h0]
  by_cases h1 : y.val - 512 < 512
  · rw [dif_pos h1]
    by_cases hr : (y.val - 512) / 32 % 2 < 1
    · rw [dif_pos hr]
      exact col_flip (fun s => val_main_v21 (F := Ideal) x0 x1 x2 x3 x4 (ix3 b T s)) y _ _ (by unfold Pad; omega) (by unfold Flip; omega) (by rw [src_iqf (by omega) (by omega) (by omega)]; omega)
    · rw [dif_neg hr]
      exact col_keep (fun s => val_main_v21 (F := Ideal) x0 x1 x2 x3 x4 (ix3 b T s)) y _ _ (by unfold Pad; omega) (by unfold Flip; omega) (by rw [src_iqk (by omega) (by omega) (by omega)]; omega)
  rw [dif_neg h1]
  by_cases h2 : y.val - 512 - 512 < 8
  · rw [dif_pos h2]
    exact col_keep (fun s => val_main_v21 (F := Ideal) x0 x1 x2 x3 x4 (ix3 b T s)) y _ _ (by unfold Pad; omega) (by unfold Flip; omega) (by rw [src_ff (by omega) (by omega)]; omega)
  rw [dif_neg h2]
  by_cases h3 : y.val - 512 - 512 - 8 < 8
  · rw [dif_pos h3]
    exact col_keep (fun s => val_main_v21 (F := Ideal) x0 x1 x2 x3 x4 (ix3 b T s)) y _ _ (by unfold Pad; omega) (by unfold Flip; omega) (by rw [src_iw (by omega) (by omega)]; omega)
  rw [dif_neg h3]
  by_cases h4 : y.val - 512 - 512 - 8 - 8 < 112
  · rw [dif_pos h4]
    exact col_pad (fun s => val_main_v21 (F := Ideal) x0 x1 x2 x3 x4 (ix3 b T s)) y (by unfold Pad; omega)
  rw [dif_neg h4]
  by_cases h5 : y.val - 512 - 512 - 8 - 8 - 112 < 128
  · rw [dif_pos h5]
    exact col_keep (fun s => val_main_v21 (F := Ideal) x0 x1 x2 x3 x4 (ix3 b T s)) y _ _ (by unfold Pad; omega) (by unfold Flip; omega) (by rw [src_kv (by omega) (by omega)]; omega)
  rw [dif_neg h5]
  by_cases h6 : y.val - 512 - 512 - 8 - 8 - 112 - 128 < 64
  · rw [dif_pos h6]
    exact col_keep (fun s => val_main_v21 (F := Ideal) x0 x1 x2 x3 x4 (ix3 b T s)) y _ _ (by unfold Pad; omega) (by unfold Flip; omega) (by rw [src_ik (by omega) (by omega)]; omega)
  rw [dif_neg h6]
  by_cases h7 : y.val - 512 - 512 - 8 - 8 - 112 - 128 - 64 < 64
  · rw [dif_pos h7]
    exact col_keep (fun s => val_main_v21 (F := Ideal) x0 x1 x2 x3 x4 (ix3 b T s)) y _ _ (by unfold Pad; omega) (by unfold Flip; omega) (by rw [src_ik2 (by omega) (by omega)]; omega)
  rw [dif_neg h7]
  by_cases h8 : y.val - 512 - 512 - 8 - 8 - 112 - 128 - 64 - 64 < 64
  · rw [dif_pos h8]
    by_cases hr : y.val - 512 - 512 - 8 - 8 - 112 - 128 - 64 - 64 < 32
    · rw [dif_pos hr]
      exact col_flip (fun s => val_main_v21 (F := Ideal) x0 x1 x2 x3 x4 (ix3 b T s)) y _ _ (by unfold Pad; omega) (by unfold Flip; omega) (by rw [src_rf (by omega) (by omega) (by omega)]; omega)
    · rw [dif_neg hr]
      exact col_keep (fun s => val_main_v21 (F := Ideal) x0 x1 x2 x3 x4 (ix3 b T s)) y _ _ (by unfold Pad; omega) (by unfold Flip; omega) (by rw [src_rk (by omega) (by omega) (by omega)]; omega)
  rw [dif_neg h8]
  by_cases hr : y.val - 512 - 512 - 8 - 8 - 112 - 128 - 64 - 64 - 64 < 32
  · rw [dif_pos hr]
    exact col_flip (fun s => val_main_v21 (F := Ideal) x0 x1 x2 x3 x4 (ix3 b T s)) y _ _ (by unfold Pad; omega) (by unfold Flip; omega) (by rw [src_sf (by omega) (by omega)]; omega)
  · rw [dif_neg hr]
    exact col_keep (fun s => val_main_v21 (F := Ideal) x0 x1 x2 x3 x4 (ix3 b T s)) y _ _ (by unfold Pad; omega) (by unfold Flip; omega) (by rw [src_sk (by omega) (by omega)]; omega)

theorem out_apply (R : Fin 32768) (y : Fin 1536) :
    val_main_v50 (F := Ideal) x0 x1 x2 x3 x4 (ix2 R y)
      = val_main_v49 (F := Ideal) x0 x1 x2 x3 x4 (ix3 ⟨R.val / 4096, by omega⟩ ⟨R.val % 4096, by omega⟩ y) := by
  pointwise [val_main_v50]

end Cert.SmallRefIdeal.Small
end
-- ==== Proof.SmallResult.lean ====
module

public import proofs.«01_k».proof.Proof.SmallBlocks
public import proofs.«01_k».proof.Proof.SmallBody
public import proofs.«01_k».proof.Proof.SmallElem
public import proofs.«01_k».proof.Proof.SmallRef

@[expose] public section

/-! The small projection's result array is its reference's, where the gains, scales, shifts and weights are finite. -/

set_option maxRecDepth 16384

noncomputable section

namespace Cert.SmallIdeal.Small
open Cert.SmallIdeal Cert.SmallIdeal.Gen Idealize.ShloMosaic Idealize.ShloMosaic.TcCoe Idealize.SL.Sem Idealize.ShloMosaic.Pointwise Cert.Norm Cert.SmallColumns

variable (m : (ℓ : Loc nD τ sig) → Buf (Elt Ideal) ℓ)

/-- The normalized, scaled and shifted row the arguments give. -/
def hrow (c : Dev nD) (R : Fin 32768) (k : Fin 1024) : EReal :=
  row (fun k => m ((c : Thread nD τ).loc main_arg0) (ix3 ⟨R.val / 4096, by omega⟩ ⟨R.val % 4096, by omega⟩ k)) (fun k => m ((c : Thread nD τ).loc main_arg1) (ix1 k))
    (fun k => m ((c : Thread nD τ).loc main_arg2) (ix2 ⟨R.val / 4096, by omega⟩ k)) (fun k => m ((c : Thread nD τ).loc main_arg3) (ix2 ⟨R.val / 4096, by omega⟩ k)) k

/-- What the first point of a row of blocks computes of its blocks. -/
theorem fresh (c : Dev nD) (t : Fin cfg0.N) (r k : Fin 1024) :
    (k0_pay1 (iblk m c 0 t) (iblk m c 1 t) (iblk m c 2 t) (iblk m c 3 t) (ix2 r k) : EReal) = hrow m c (rowOf t r) k := by
  have ht := lt_N t
  have hb : batOf t = ⟨(rowOf t r).val / 4096, by omega⟩ := Fin.ext (by dsimp only; omega)
  refine (kept_apply _ _ _ _ r k).trans ?_
  unfold hrow
  congr 1
  · funext l; exact (blk_x m c t r l).trans (op_x m c _ l)
  · funext l; exact (blk_g m c t l).trans (op_g m c l)
  · funext l; exact (blk_scale m c t l).trans ((op_scale m c _ l).trans (by rw [hb]))
  · funext l; exact (blk_shift m c t l).trans ((op_shift m c _ l).trans (by rw [hb]))

/-- The point before, on the same row of blocks. -/
abbrev pred (t : Fin cfg0.N) : Fin cfg0.N := ⟨t.val - 1, Nat.lt_of_le_of_lt (Nat.sub_le _ _) t.isLt⟩

theorem rowOf_pred (t : Fin cfg0.N) (h0 : ¬t.val % 3 = 0) (r : Fin 1024) : rowOf (pred t) r = rowOf t r := Fin.ext (by dsimp only; omega)

theorem kept_A (c : Dev nD) (t : Fin cfg0.N) (h0 : t.val % 3 = 0) :
    (outsAt0 m c t.val t.isLt).2 = k0_pay1 (iblk m c 0 t) (iblk m c 1 t) (iblk m c 2 t) (iblk m c 3 t) := by
  rw [outsAt0_A m c t h0]
  dsimp only
  rw [soutA_eq]

theorem kept_B (c : Dev nD) (t : Fin cfg0.N) (h0 : ¬t.val % 3 = 0) : (outsAt0 m c t.val t.isLt).2 = (outsAt0 m c (pred t).val (pred t).isLt).2 := by
  rw [outsAt0_B m c t h0]
  dsimp only [sout0_B_0]

theorem left_A (c : Dev nD) (t : Fin cfg0.N) (h0 : t.val % 3 = 0) :
    (outsAt0 m c t.val t.isLt).1 = k0_pay2 (k0_pay1 (iblk m c 0 t) (iblk m c 1 t) (iblk m c 2 t) (iblk m c 3 t)) (iblk m c 4 t) := by
  rw [outsAt0_A m c t h0]
  dsimp only
  rw [outA_eq]

theorem left_B (c : Dev nD) (t : Fin cfg0.N) (h0 : ¬t.val % 3 = 0) :
    (outsAt0 m c t.val t.isLt).1 = k0_pay2 (outsAt0 m c (pred t).val (pred t).isLt).2 (iblk m c 4 t) := by
  rw [outsAt0_B m c t h0]
  dsimp only
  rw [outB_eq]

/-- Every point of a row of blocks keeps that row's rows. -/
theorem kept (c : Dev nD) (n : ℕ) : ∀ (t : Fin cfg0.N), t.val = n → ∀ r k : Fin 1024,
    ((outsAt0 m c t.val t.isLt).2 (ix2 r k) : EReal) = hrow m c (rowOf t r) k := by
  induction n using Nat.strong_induction_on with
  | _ n ih =>
    intro t ht r k
    by_cases h0 : t.val % 3 = 0
    · rw [kept_A m c t h0]
      exact fresh m c t r k
    · rw [kept_B m c t h0, ih (t.val - 1) (by omega) (pred t) rfl r k, rowOf_pred t h0]

/-- What a point leaves in its block of the result. -/
theorem out_at (c : Dev nD) (t : Fin cfg0.N) (r : Fin 1024) (j : Fin 512) :
    ((outsAt0 m c t.val t.isLt).1 (ix2 r j) : EReal)
      = ∑ k, hrow m c (rowOf t r) k * col (fun s => m ((c : Thread nD τ).loc main_arg4) (ix2 k s)) (colOf t j) := by
  have hw : ∀ k, (iblk m c 4 t (ix2 k j) : EReal) = col (fun s => m ((c : Thread nD τ).loc main_arg4) (ix2 k s)) (colOf t j) :=
    fun k => (blk_w m c t k j).trans (op_w m c k _)
  by_cases h0 : t.val % 3 = 0
  · rw [left_A m c t h0]
    refine (prod_apply _ _ r j).trans ?_
    exact Finset.sum_congr rfl fun k _ => congrArg₂ (· * ·) (fresh m c t r k) (hw k)
  · rw [left_B m c t h0]
    refine (prod_apply _ _ r j).trans ?_
    refine Finset.sum_congr rfl fun k _ => congrArg₂ (· * ·) ((kept m c _ (pred t) rfl r k).trans ?_) (hw k)
    rw [rowOf_pred t h0]

/-- The reference's result from the kernel's arguments. -/
def G (c : Dev nD) : Vec Ideal S32768x1536 .f32 :=
  Cert.SmallRefIdeal.Read.val_main_v50 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem final (c : Dev nD)
    (hg : ∀ k : Fin 1024, Real' (m ((c : Thread nD τ).loc main_arg1) (ix1 k) : EReal))
    (hsc : ∀ (b : Fin 8) (k : Fin 1024), Real' (m ((c : Thread nD τ).loc main_arg2) (ix2 b k) : EReal))
    (hsh : ∀ (b : Fin 8) (k : Fin 1024), Real' (m ((c : Thread nD τ).loc main_arg3) (ix2 b k) : EReal))
    (hw : ∀ (k : Fin 1024) (s : Fin 8912), Real' (m ((c : Thread nD τ).loc main_arg4) (ix2 k s) : EReal)) :
    (dats m 0 c).arrAt 5 cfg0.N = G m c := by
  refine (dats m 0 c).arrAt_eq_of_covers 5 _ (by decide +kernel) fun t hf y => ?_
  blk_simp
  idx_vars y
  rw [after0_5]
  have h : ((outsAt0 m c t.val t.isLt).1 (ix2 y0 y1) : EReal) = G m c (ix2 (rowOf t y0) (colOf t y1)) := by
    refine (out_at m c t y0 y1).trans ?_
    refine (sum_col _ _ (fun k => row_real _ _ _ _ (fun _ => hg _) (fun _ => hsc _ _) (fun _ => hsh _ _) k) (fun k s => hw k s) _).trans ?_
    refine Eq.trans ?_ ((Cert.SmallRefIdeal.Small.out_apply _ _ _ _ _ (rowOf t y0) (colOf t y1)).trans (Cert.SmallRefIdeal.Small.cols_apply _ _ _ _ _ _ _ _)).symm
    congr 1
    funext s
    refine Eq.trans ?_ (Cert.ProjectionRefIdeal.Proj.z_apply _ _ _ _ _ _ _ s).symm
    exact Finset.sum_congr rfl fun k _ => congrArg₂ (· * ·) (Cert.ProjectionRefIdeal.Proj.row_apply _ _ _ _ _ _ k).symm rfl
  refine h.trans ?_
  blk_ext [ind5]
  all_goals (dsimp only [rowOf, colOf]; omega)

end Cert.SmallIdeal.Small
end
-- ==== Proof.InnerBody.lean ====
module

public import proofs.«01_k».proof.Proof.Gen.InnerIdeal.Value
public import Idealize.ShloMosaic.Lib.Pipeline.ValueKit.Geometry
public import Idealize.ShloMosaic.Lib.Pointwise

@[expose] public section

/-! What the body without the last norm leaves in its output block, from its input blocks. -/

set_option maxRecDepth 16384

noncomputable section

namespace Cert.InnerIdeal.Merge
open Cert.InnerIdeal Cert.InnerIdeal.Gen Idealize.ShloMosaic Idealize.ShloMosaic.TcCoe Idealize.SL.Sem

variable {F : FTy → Type} [FloatOps F] [Named F]

theorem out_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S512x1024 .f32) (harg14 : arg14.IsWhole)
    (x0 : Vec F S512x1024 .f32) (x1 : Vec F S1x1x1024 .f32) (x2 : Vec F S512x512 .bf16) (x3 : Vec F S512x512 .bf16) (x4 : Vec F S512x512 .bf16) (x5 : Vec F S512x1024 .bf16) (x6 : Vec F S512x1024 .bf16) (x7 : Vec F S512x1024 .bf16) (x8 : Vec F S512x1024 .bf16) (x9 : Vec F S512x1024 .bf16) (x10 : Vec F S512x1024 .bf16) (x11 : Vec F S1024x1024 .bf16) (x12 : Vec F S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = k0_pay1 (k0_pay2 x2 x8 x5 x3 x9 x6 x4 x10 x7) (k0_pay3 x0) x1 x11 := by
  have h0 : (View.readAt (Elt F) arg1.view (Rect.unit ![0, 0] S512x1024.size inb_S512x1024_S512x1024_0_0).toLoadRect (harg1.unread x0)) = x0 := by
    rw [View.readAt_eq_ld, harg1.read_unread]
    exact View.ld_unit_zero (by decide) _ _
  have h1 : (View.readAt (Elt F) arg2.view (Rect.unit ![0, 0, 0] S1x1x1024.size inb_S1x1x1024_S1x1x1024_0_0_0).toLoadRect (harg2.unread x1)) = x1 := by
    rw [View.readAt_eq_ld, harg2.read_unread]
    exact View.ld_unit_zero (by decide) _ _
  have h2 : (View.readAt (Elt F) arg3.view (Rect.unit ![0, 0] S512x512.size inb_S512x512_S512x512_0_0).toLoadRect (harg3.unread x2)) = x2 := by
    rw [View.readAt_eq_ld, harg3.read_unread]
    exact View.ld_unit_zero (by decide) _ _
  have h3 : (View.readAt (Elt F) arg4.view (Rect.unit ![0, 0] S512x512.size inb_S512x512_S512x512_0_0).toLoadRect (harg4.unread x3)) = x3 := by
    rw [View.readAt_eq_ld, harg4.read_unread]
    exact View.ld_unit_zero (by decide) _ _
  have h4 : (View.readAt (Elt F) arg5.view (Rect.unit ![0, 0] S512x512.size inb_S512x512_S512x512_0_0).toLoadRect (harg5.unread x4)) = x4 := by
    rw [View.readAt_eq_ld, harg5.read_unread]
    exact View.ld_unit_zero (by decide) _ _
  have h5 : (View.readAt (Elt F) arg6.view (Rect.unit ![0, 0] S512x1024.size inb_S512x1024_S512x1024_0_0).toLoadRect (harg6.unread x5)) = x5 := by
    rw [View.readAt_eq_ld, harg6.read_unread]
    exact View.ld_unit_zero (by decide) _ _
  have h6 : (View.readAt (Elt F) arg7.view (Rect.unit ![0, 0] S512x1024.size inb_S512x1024_S512x1024_0_0).toLoadRect (harg7.unread x6)) = x6 := by
    rw [View.readAt_eq_ld, harg7.read_unread]
    exact View.ld_unit_zero (by decide) _ _
  have h7 : (View.readAt (Elt F) arg8.view (Rect.unit ![0, 0] S512x1024.size inb_S512x1024_S512x1024_0_0).toLoadRect (harg8.unread x7)) = x7 := by
    rw [View.readAt_eq_ld, harg8.read_unread]
    exact View.ld_unit_zero (by decide) _ _
  have h8 : (View.readAt (Elt F) arg9.view (Rect.unit ![0, 0] S512x1024.size inb_S512x1024_S512x1024_0_0).toLoadRect (harg9.unread x8)) = x8 := by
    rw [View.readAt_eq_ld, harg9.read_unread]
    exact View.ld_unit_zero (by decide) _ _
  have h9 : (View.readAt (Elt F) arg10.view (Rect.unit ![0, 0] S512x1024.size inb_S512x1024_S512x1024_0_0).toLoadRect (harg10.unread x9)) = x9 := by
    rw [View.readAt_eq_ld, harg10.read_unread]
    exact View.ld_unit_zero (by decide) _ _
  have h10 : (View.readAt (Elt F) arg11.view (Rect.unit ![0, 0] S512x1024.size inb_S512x1024_S512x1024_0_0).toLoadRect (harg11.unread x10)) = x10 := by
    rw [View.readAt_eq_ld, harg11.read_unread]
    exact View.ld_unit_zero (by decide) _ _
  have h11 : (View.readAt (Elt F) arg12.view (Rect.unit ![0, 0] S1024x1024.size inb_S1024x1024_S1024x1024_0_0).toLoadRect (harg12.unread x11)) = x11 := by
    rw [View.readAt_eq_ld, harg12.read_unread]
    exact View.ld_unit_zero (by decide) _ _
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  rw [View.canon_unit_zero (by decide), h1, h11]
  exact congrArg₂ (fun u v => k0_pay1 u v x1 x11)
    (show k0_pay2 _ _ _ _ _ _ _ _ _ = _ by rw [h2, h8, h5, h3, h9, h6, h4, h10, h7])
    (congrArg k0_pay3 h0)

end Cert.InnerIdeal.Merge
end
-- ==== Proof.InnerElem.lean ====
module

public import proofs.«01_k».proof.Proof.InnerBody
public import proofs.«01_k».proof.Proof.MergeRow
public import Idealize.ShloMosaic.Lib.Pointwise

@[expose] public section

/-! The body's block at an index: one row of the merge. -/

set_option maxRecDepth 16384

noncomputable section

namespace Cert.InnerIdeal.Merge
open Cert.InnerIdeal Cert.InnerIdeal.Gen Idealize.ShloMosaic Idealize.ShloMosaic.TcCoe Idealize.SL.Sem Idealize.ShloMosaic.Pointwise Cert.MergeRow

theorem elem (x0 : Vec Ideal S512x1024 .f32) (x1 : Vec Ideal S1x1x1024 .f32) (x2 x3 x4 : Vec Ideal S512x512 .bf16)
    (x5 x6 x7 x8 x9 x10 : Vec Ideal S512x1024 .bf16) (x11 : Vec Ideal S1024x1024 .bf16) (r : Fin 512) (j : Fin 1024) :
    (k0_pay1 (k0_pay2 x2 x8 x5 x3 x9 x6 x4 x10 x7) (k0_pay3 x0) x1 x11 (ix2 r j) : EReal)
      = res (fun k => x0 (ix2 r k)) (fun k => x1 (ix3 0 0 k)) (fun k => x5 (ix2 r k)) (fun k => x6 (ix2 r k)) (fun k => x7 (ix2 r k))
          (fun d => x2 (ix2 r d)) (fun d => x3 (ix2 r d)) (fun d => x4 (ix2 r d))
          (fun d k => x8 (ix2 d k)) (fun d k => x9 (ix2 d k)) (fun d k => x10 (ix2 d k)) (fun k l => x11 (ix2 k l)) j := by
  unfold res
  pointwise [k0_pay1, k0_pay2, k0_pay3]

end Cert.InnerIdeal.Merge
end
-- ==== Proof.InnerRef.lean ====
module

public import proofs.«01_k».proof.Proof.Gen.InnerRefIdeal.Read
public import proofs.«01_k».proof.Proof.MergeRef
public import Idealize.ShloMosaic.Lib.Pointwise

@[expose] public section

/-! The reference of the merge without the last norm, at an index: the residual sum of the reference with it. -/

set_option maxRecDepth 16384

noncomputable section

namespace Cert.InnerRefIdeal.Merge
open Cert.InnerRefIdeal Cert.InnerRefIdeal.Gen Cert.InnerRefIdeal.Read Idealize.ShloMosaic Idealize.ShloMosaic.TcCoe Idealize.SL.Sem
open Idealize.ShloMosaic.Pointwise Idealize.ShloMosaic.StableHlo

variable (x0 : Vec Ideal S8x4096x1024 .f32) (x1 : Vec Ideal S8x1024 .f32) (x2 x3 x4 : Vec Ideal S8x4096x512 .f32) (x5 : Vec Ideal S8x4096x3072 .f32)
  (x6 x7 x8 : Vec Ideal S512x1024 .f32) (x9 : Vec Ideal S1024x1024 .f32)

theorem res_eq : val_main_v21 (F := Ideal) x0 x1 x2 x3 x4 x5 x6 x7 x8 x9 = Cert.MergeRefIdeal.Read.val_main_v21 (F := Ideal) x0 x1 x2 x3 x4 x5 x6 x7 x8 x9 := rfl

theorem out_apply (R : Fin 32768) (j : Fin 1024) :
    val_main_v22 (F := Ideal) x0 x1 x2 x3 x4 x5 x6 x7 x8 x9 (ix2 R j)
      = Cert.MergeRefIdeal.Read.val_main_v21 (F := Ideal) x0 x1 x2 x3 x4 x5 x6 x7 x8 x9 (ix3 ⟨R.val / 4096, by omega⟩ ⟨R.val % 4096, by omega⟩ j) := by
  rw [← res_eq]
  pointwise [val_main_v22]

end Cert.InnerRefIdeal.Merge
end
-- ==== Proof.InnerResult.lean ====
module

public import proofs.«01_k».proof.Proof.InnerElem
public import proofs.«01_k».proof.Proof.InnerRef
public import proofs.«01_k».proof.Proof.MergeResult

@[expose] public section

/-! The result array of the merge without the last norm is its reference's. -/

set_option maxRecDepth 16384

noncomputable section

namespace Cert.InnerIdeal.Merge
open Cert.InnerIdeal Cert.InnerIdeal.Gen Idealize.ShloMosaic Idealize.ShloMosaic.TcCoe Idealize.SL.Sem Idealize.ShloMosaic.Pointwise Cert.MergeRow

variable (m : (ℓ : Loc nD τ sig) → Buf (Elt Ideal) ℓ)

/-- The reference's result from the kernel's arguments. -/
def G (c : Dev nD) : Vec Ideal S32768x1024 .f32 :=
  Cert.InnerRefIdeal.Read.val_main_v22 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The blocks are those of the merge with the norm, and so is the residual sum the body computes of them. -/
theorem entry (c : Dev nD) (t : Fin cfg0.N) (r : Fin 512) (j : Fin 1024) :
    res (fun k => iblk m c 0 t (ix2 r k)) (fun k => iblk m c 1 t (ix3 0 0 k)) (fun k => X0_5 m c t (ix2 r k)) (fun k => X0_6 m c t (ix2 r k)) (fun k => X0_7 m c t (ix2 r k))
          (fun d => iblk m c 2 t (ix2 r d)) (fun d => iblk m c 3 t (ix2 r d)) (fun d => iblk m c 4 t (ix2 r d))
          (fun d k => iblk m c 8 t (ix2 d k)) (fun d k => iblk m c 9 t (ix2 d k)) (fun d k => iblk m c 10 t (ix2 d k)) (fun k l => iblk m c 11 t (ix2 k l)) j
      = G m c (ix2 (Cert.MergeIdeal.Merge.rowOf t r) j) :=
  (Cert.MergeIdeal.Merge.entry_res m c t r j).trans (Cert.InnerRefIdeal.Merge.out_apply _ _ _ _ _ _ _ _ _ _ (Cert.MergeIdeal.Merge.rowOf t r) j).symm

theorem ind13 : ∀ t : Fin cfg0.N, win0_13.index t = ![t.val, 0] := Cert.MergeIdeal.Merge.ind13

theorem final (c : Dev nD) : (dats m 0 c).arrAt 13 cfg0.N = G m c := by
  refine (dats m 0 c).arrAt_eq_of_covers 13 _ (by decide +kernel) fun t hf y => ?_
  blk_simp
  idx_vars y
  rw [after0_13]
  unfold outsAt0
  rw [out_eq]
  refine ((elem (iblk m c 0 t) (iblk m c 1 t) (iblk m c 2 t) (iblk m c 3 t) (iblk m c 4 t) (X0_5 m c t) (X0_6 m c t) (X0_7 m c t)
    (iblk m c 8 t) (iblk m c 9 t) (iblk m c 10 t) (iblk m c 11 t) y0 y1).trans (entry m c t y0 y1)).trans ?_
  blk_ext [ind13]
  all_goals (dsimp only [Cert.MergeIdeal.Merge.rowOf]; omega)

end Cert.InnerIdeal.Merge
end
-- ==== Proof.Texts.lean ====
module

public import proofs.«01_k».proof.Defs
public import proofs.«01_k».proof.Proof.Gen.MergeIdeal.Frame
public import proofs.«01_k».proof.Proof.Gen.ProjectionIdeal.Frame
public import proofs.«01_k».proof.Proof.Gen.InnerIdeal.Frame
public import proofs.«01_k».proof.Proof.Gen.SmallIdeal.Frame
public import proofs.«01_k».proof.Proof.Gen.Merge
public import proofs.«01_k».proof.Proof.Gen.Inner
public import proofs.«01_k».proof.Proof.Gen.Small
public import proofs.«01_k».proof.Proof.Gen.Projection

@[expose] public section

/-! The projections and the merges and their idealizations are the same texts: the run of the one is the run of the other, at the bits. -/

set_option maxRecDepth 16384

noncomputable section

namespace Cert.Texts
open Idealize.ShloMosaic Idealize.SL.Sem

theorem bodies_proj : @Cert.Projection.defs₀ Bits _ _ = @Cert.ProjectionIdeal.defs₀ Bits _ _ := by
  unfold Cert.Projection.defs₀ Cert.ProjectionIdeal.defs₀
  refine congrArg (Defs.onTc (sig := Cert.Projection.sig)) ?_
  funext l a
  match l, a with
  | 0, (t, s) => rfl

theorem defs_proj : @Cert.Projection.defs Bits _ _ = @Cert.ProjectionIdeal.defs Bits _ _ :=
  congrArg (Pipeline.defs (@Cert.Projection.pcfgs Bits _)) bodies_proj

theorem frame_proj : Cert.quiescent_Projection := fun m ρ _ => by
  rw [defs_proj]
  exact Cert.ProjectionIdeal.Gen.frame (F := Bits) m ρ

set_option maxHeartbeats 8000000 in
theorem bodies_merge : @Cert.Merge.defs₀ Bits _ _ = @Cert.MergeIdeal.defs₀ Bits _ _ := by
  unfold Cert.Merge.defs₀ Cert.MergeIdeal.defs₀
  refine congrArg (Defs.onTc (sig := Cert.Merge.sig)) ?_
  funext l a
  match l, a with
  | 0, (t, s) => rfl

theorem defs_merge : @Cert.Merge.defs Bits _ _ = @Cert.MergeIdeal.defs Bits _ _ :=
  congrArg (Pipeline.defs (@Cert.Merge.pcfgs Bits _)) bodies_merge

theorem frame_merge : Cert.quiescent_Merge := fun m ρ _ => by
  rw [defs_merge]
  exact Cert.MergeIdeal.Gen.frame (F := Bits) m ρ

theorem bodies_small : @Cert.Small.defs₀ Bits _ _ = @Cert.SmallIdeal.defs₀ Bits _ _ := by
  unfold Cert.Small.defs₀ Cert.SmallIdeal.defs₀
  refine congrArg (Defs.onTc (sig := Cert.Small.sig)) ?_
  funext l a
  match l, a with
  | 0, (t, s) => rfl

theorem defs_small : @Cert.Small.defs Bits _ _ = @Cert.SmallIdeal.defs Bits _ _ :=
  congrArg (Pipeline.defs (@Cert.Small.pcfgs Bits _)) bodies_small

theorem frame_small : Cert.quiescent_Small := fun m ρ _ => by
  rw [defs_small]
  exact Cert.SmallIdeal.Gen.frame (F := Bits) m ρ

set_option maxHeartbeats 8000000 in
theorem bodies_inner : @Cert.Inner.defs₀ Bits _ _ = @Cert.InnerIdeal.defs₀ Bits _ _ := by
  unfold Cert.Inner.defs₀ Cert.InnerIdeal.defs₀
  refine congrArg (Defs.onTc (sig := Cert.Inner.sig)) ?_
  funext l a
  match l, a with
  | 0, (t, s) => rfl

theorem defs_inner : @Cert.Inner.defs Bits _ _ = @Cert.InnerIdeal.defs Bits _ _ :=
  congrArg (Pipeline.defs (@Cert.Inner.pcfgs Bits _)) bodies_inner

theorem frame_inner : Cert.quiescent_Inner := fun m ρ _ => by
  rw [defs_inner]
  exact Cert.InnerIdeal.Gen.frame (F := Bits) m ρ

end Cert.Texts
end
-- ==== Proof.Finite.lean ====
/- Hand-written, untrusted: the preconditions read back — the arrays they name are real. -/
module

public import proofs.«01_k».proof.Pre_finite_qk
public import proofs.«01_k».proof.Pre_finite_proj
public import proofs.«01_k».proof.Proof.Norm
public import Idealize.ShloMosaic.Lib.ReduceAll
public import Idealize.ShloMosaic.Lib.Pointwise
public import Idealize.ShloMosaic.PureOps.Ideal

@[expose] public section

set_option maxRecDepth 16384

noncomputable section

namespace Cert.Finite

open Idealize.ShloMosaic

/-- The word of plus infinity reads as the top of the extended reals. -/
theorem inf_word : FloatOps.ofBits (F := Ideal) .f32 0x7F800000#32 = (⊤ : EReal) := by
  show Ideal.ieee 8 23 0x7F800000#32 = ⊤
  unfold Ideal.ieee
  rw [if_pos (by decide)]; rfl

/-- An extended real whose magnitude compares below infinity is a real. -/
theorem real_of_lt (x : EReal) (h : Ideal.cmp .olt (max x (-x)) ⊤ = 1#1) : x = ((x.toReal : ℝ) : EReal) := by
  have hlt : max x (-x) < ⊤ := by
    by_contra hn
    simp [Ideal.cmp, hn] at h
  refine (EReal.coe_toReal ?_ ?_).symm
  · rintro rfl; simp at hlt
  · rintro rfl; simp at hlt

/-- `jnp.all(|x| < inf)` is 1 only where every element of `x` is a real. -/
theorem reals_of_all {s : Shape} {dims : List (Fin s.rank)} (hb : Cert.Pre_finite_qk.S_.BroadcastsInDim s (![] : Fin 0 → Fin s.rank)) (hr : s.ReducesTo dims Cert.Pre_finite_qk.S_)
    (hn : 0 < Cert.Pre_finite_qk.S_.numel) (x : FVec Ideal s .f32) (k : Cert.Pre_finite_qk.S_.Idx)
    (h : Host.reduce IntOp.andi (cmpf .olt (Host.absf x) (broadcastInDim s ![] hb (constant Cert.Pre_finite_qk.S_ .f32 0x7F800000#32)))
      (constantI Cert.Pre_finite_qk.S_ 1 1#1) hr hn k = 1#1) (j : s.Idx) :
    (x j : EReal) = (((x j : EReal).toReal : ℝ) : EReal) := by
  haveI : Subsingleton Cert.Pre_finite_qk.S_.Idx := ⟨fun a b => funext fun d => d.elim0⟩
  have e := Host.reduce_andi_all _ _ _ _ k h j
  refine real_of_lt (x j) ?_
  have e' : Ideal.cmp .olt (max (x j : EReal) (-(x j : EReal))) (FloatOps.ofBits (F := Ideal) .f32 0x7F800000#32) = 1#1 := e
  rwa [inf_word] at e'

/-- Where the attention's precondition holds, the queries and the keys are real. -/
theorem reals [Cert.Pre_finite_qk.Facts] (q k v g : FVec Ideal Cert.Pre_finite_qk.S8x4096x512 .f32) (h : Cert.Pre_finite_qk.fn (F := Ideal) q k v g = fun _ => 1#1) :
    (∀ j, (q j : EReal) = (((q j : EReal).toReal : ℝ) : EReal)) ∧ ∀ j, (k j : EReal) = (((k j : EReal).toReal : ℝ) : EReal) := by
  have h0 := congrFun h (fun d => d.elim0)
  have h1 := IntOp.andi_eq_one.1 h0
  exact ⟨reals_of_all Cert.Pre_finite_qk.Facts.bcast_S_S8x4096x512 Cert.Pre_finite_qk.Facts.reducesTo_S8x4096x512_S_d0_1_2 Cert.Pre_finite_qk.Facts.h_S_ q (fun d => d.elim0) h1.1, reals_of_all Cert.Pre_finite_qk.Facts.bcast_S_S8x4096x512 Cert.Pre_finite_qk.Facts.reducesTo_S8x4096x512_S_d0_1_2 Cert.Pre_finite_qk.Facts.h_S_ k (fun d => d.elim0) h1.2⟩

/-- Where the projection's precondition holds, the gains, the scales, the shifts and the weights are real. -/
theorem reals_proj [Cert.Pre_finite_proj.Facts] (x : FVec Ideal Cert.Pre_finite_proj.S8x4096x1024 .f32) (g : FVec Ideal Cert.Pre_finite_proj.S1024 .f32)
    (sc sh : FVec Ideal Cert.Pre_finite_proj.S8x1024 .f32) (w : FVec Ideal Cert.Pre_finite_proj.S1024x8912 .f32)
    (h : Cert.Pre_finite_proj.fn (F := Ideal) x g sc sh w = fun _ => 1#1) :
    (∀ j, Cert.Norm.Real' (g j : EReal)) ∧ (∀ j, Cert.Norm.Real' (sc j : EReal)) ∧ (∀ j, Cert.Norm.Real' (sh j : EReal)) ∧ ∀ j, Cert.Norm.Real' (w j : EReal) := by
  have h0 := congrFun h (fun d => d.elim0)
  have h1 := IntOp.andi_eq_one.1 h0
  have h2 := IntOp.andi_eq_one.1 h1.1
  have h3 := IntOp.andi_eq_one.1 h2.1
  exact ⟨fun j => ⟨_, reals_of_all Cert.Pre_finite_proj.Facts.bcast_S_S1024 Cert.Pre_finite_proj.Facts.reducesTo_S1024_S_d0 Cert.Pre_finite_proj.Facts.h_S_ g (fun d => d.elim0) h3.1 j⟩, fun j => ⟨_, reals_of_all Cert.Pre_finite_proj.Facts.bcast_S_S8x1024 Cert.Pre_finite_proj.Facts.reducesTo_S8x1024_S_d0_1 Cert.Pre_finite_proj.Facts.h_S_ sc (fun d => d.elim0) h3.2 j⟩, fun j => ⟨_, reals_of_all Cert.Pre_finite_proj.Facts.bcast_S_S8x1024 Cert.Pre_finite_proj.Facts.reducesTo_S8x1024_S_d0_1 Cert.Pre_finite_proj.Facts.h_S_ sh (fun d => d.elim0) h2.2 j⟩,
    fun j => ⟨_, reals_of_all Cert.Pre_finite_proj.Facts.bcast_S_S1024x8912 Cert.Pre_finite_proj.Facts.reducesTo_S1024x8912_S_d0_1 Cert.Pre_finite_proj.Facts.h_S_ w (fun d => d.elim0) h1.2 j⟩⟩

end Cert.Finite

end
-- ==== Proof.lean ====
module

public import proofs.«01_k».proof.Proof.Gen.KernelIdeal.Value
public import proofs.«01_k».proof.Proof.Gen.ProjectionIdeal.Value
public import proofs.«01_k».proof.Proof.Gen.ProjectionRefIdeal.Run
public import proofs.«01_k».proof.Proof.Gen.ProjectionRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.Projection
public import proofs.«01_k».proof.Proof.Gen.Merge
public import proofs.«01_k».proof.Proof.Gen.ProjectionIdeal
public import proofs.«01_k».proof.Proof.Gen.ProjectionRefIdeal
public import proofs.«01_k».proof.Proof.Gen.MergeIdeal
public import proofs.«01_k».proof.Proof.Gen.MergeRefIdeal
public import proofs.«01_k».proof.Proof.Gen.Pre_finite_proj
public import proofs.«01_k».proof.Proof.Gen.Small
public import proofs.«01_k».proof.Proof.Gen.SmallIdeal
public import proofs.«01_k».proof.Proof.Gen.SmallIdeal.Value
public import proofs.«01_k».proof.Proof.Gen.SmallRefIdeal
public import proofs.«01_k».proof.Proof.Gen.SmallRefIdeal.Run
public import proofs.«01_k».proof.Proof.Gen.SmallRefIdeal.Read
public import proofs.«01_k».proof.Proof.Gen.Inner
public import proofs.«01_k».proof.Proof.Gen.InnerIdeal
public import proofs.«01_k».proof.Proof.Gen.InnerIdeal.Value
public import proofs.«01_k».proof.Proof.Gen.InnerRefIdeal
public import proofs.«01_k».proof.Proof.Gen.InnerRefIdeal.Run
public import proofs.«01_k».proof.Proof.Gen.InnerRefIdeal.Read
public import proofs.«01_k».proof.Proof.Result
public import proofs.«01_k».proof.Proof.ProjResult
public import proofs.«01_k».proof.Proof.MergeResult
public import proofs.«01_k».proof.Proof.SmallResult
public import proofs.«01_k».proof.Proof.InnerResult
public import proofs.«01_k».proof.Proof.Texts
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference terminates, keeps its arguments, and has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant is the real its name stands for. -/
theorem preserves : Cert.preserves_Kernel_KernelIdeal :=
  ⟨IdealRules.named_const.statement Cert.KernelIdeal.κ "qscale" .f32 0x3E38AA3B#32 _ rfl,
    IdealRules.named_const.statement Cert.KernelIdeal.κ "log2e" .f32 0x3FB8AA3B#32 _ rfl⟩

/-- The stick-breaking attention: the kernel's result array is the reference's, for real queries and keys. -/
theorem algebraic : Cert.algebraic_KernelIdeal_ReferenceIdeal_pre_finite_qk := fun m ρ m' ρ' hpre hag =>
  ⟨fun c => Cert.KernelIdeal.Sb.G m c,
    (θ_run Cert.KernelIdeal.defs _ _).mono (fun r h c => by
        have hr := Cert.Finite.reals _ _ _ _ (hpre c)
        exact ⟨(h c).1.trans (Cert.KernelIdeal.Sb.final m c _ _ hr.1 hr.2), (h c).2⟩)
      (Cert.KernelIdeal.Value.run_blocks m ρ),
    (θ_run Cert.ReferenceIdeal.defs _ _).mono (fun r h c => by
        refine ⟨(h c).1.trans ?_, (h c).2⟩
        rw [Cert.ReferenceIdeal.Read.val_main_v27_eq, (hag c).1, (hag c).2.1, (hag c).2.2.1, (hag c).2.2.2]
        rfl)
      (Cert.ReferenceIdeal.Value.run (F := Ideal) m' ρ')⟩

/-- The projection's reference terminates, keeps its arguments, and has no semaphore. -/
theorem frame_proj_ri : Cert.quiescent_ProjectionRefIdeal := fun m ρ _ =>
  (θ_run Cert.ProjectionRefIdeal.defs _ _).mono (fun r h => ⟨fun c => (h c).2, sem_eq_zero_of_no_sems (by decide) r.2⟩)
    (Cert.ProjectionRefIdeal.Value.run (F := Ideal) m ρ)

/-- The merge's reference terminates, keeps its arguments, and has no semaphore. -/
theorem frame_merge_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The projection: the kernel's result array is the reference's, for real gains, scales, shifts and weights. -/
theorem algebraic_proj : Cert.algebraic_ProjectionIdeal_ProjectionRefIdeal_pre_finite_proj := fun m ρ m' ρ' hpre hag =>
  ⟨fun c => Cert.ProjectionIdeal.Proj.G m c,
    (θ_run Cert.ProjectionIdeal.defs _ _).mono (fun r h c => by
        have hr := Cert.Finite.reals_proj _ _ _ _ _ (hpre c)
        exact ⟨(h c).1.trans (Cert.ProjectionIdeal.Proj.final m c (fun k => hr.1 _) (fun b k => hr.2.1 _) (fun b k => hr.2.2.1 _) (fun k s => hr.2.2.2 _)), (h c).2⟩)
      (Cert.ProjectionIdeal.Value.run_blocks m ρ),
    (θ_run Cert.ProjectionRefIdeal.defs _ _).mono (fun r h c => by
        refine ⟨(h c).1.trans ?_, (h c).2⟩
        rw [Cert.ProjectionRefIdeal.Read.val_main_v46_eq, (hag c).1, (hag c).2.1, (hag c).2.2.1, (hag c).2.2.2.1, (hag c).2.2.2.2]
        rfl)
      (Cert.ProjectionRefIdeal.Value.run (F := Ideal) m' ρ')⟩

/-- The merge: the kernel's result array is the reference's, for all arguments. -/
theorem algebraic_merge : Cert.algebraic_MergeIdeal_MergeRefIdeal := fun m ρ m' ρ' _ hag =>
  ⟨fun c => Cert.MergeIdeal.Merge.G m c,
    (θ_run Cert.MergeIdeal.defs _ _).mono (fun r h c => ⟨(h c).1.trans (Cert.MergeIdeal.Merge.final m c), (h c).2⟩)
      (Cert.MergeIdeal.Value.run_blocks m ρ),
    (θ_run Cert.MergeRefIdeal.defs _ _).mono (fun r h c => by
        refine ⟨(h c).1.trans ?_, (h c).2⟩
        rw [Cert.MergeRefIdeal.Read.val_main_v35_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]
        rfl)
      (Cert.MergeRefIdeal.Value.run (F := Ideal) m' ρ')⟩

/-- The small projection's reference terminates, keeps its arguments, and has no semaphore. -/
theorem frame_small_ri : Cert.quiescent_SmallRefIdeal := fun m ρ _ =>
  (θ_run Cert.SmallRefIdeal.defs _ _).mono (fun r h => ⟨fun c => (h c).2, sem_eq_zero_of_no_sems (by decide) r.2⟩)
    (Cert.SmallRefIdeal.Value.run (F := Ideal) m ρ)

/-- The merge without the last norm: its reference terminates, keeps its arguments, and has no semaphore. -/
theorem frame_inner_ri : Cert.quiescent_InnerRefIdeal := fun m ρ _ =>
  (θ_run Cert.InnerRefIdeal.defs _ _).mono (fun r h => ⟨fun c => (h c).2, sem_eq_zero_of_no_sems (by decide) r.2⟩)
    (Cert.InnerRefIdeal.Value.run (F := Ideal) m ρ)

/-- The small projection: the kernel's result array is the reference's, for real gains, scales, shifts and weights. -/
theorem algebraic_small : Cert.algebraic_SmallIdeal_SmallRefIdeal_pre_finite_proj := fun m ρ m' ρ' hpre hag =>
  ⟨fun c => Cert.SmallIdeal.Small.G m c,
    (θ_run Cert.SmallIdeal.defs _ _).mono (fun r h c => by
        have hr := Cert.Finite.reals_proj _ _ _ _ _ (hpre c)
        exact ⟨(h c).1.trans (Cert.SmallIdeal.Small.final m c (fun k => hr.1 _) (fun b k => hr.2.1 _) (fun b k => hr.2.2.1 _) (fun k s => hr.2.2.2 _)), (h c).2⟩)
      (Cert.SmallIdeal.Value.run_blocks m ρ),
    (θ_run Cert.SmallRefIdeal.defs _ _).mono (fun r h c => by
        refine ⟨(h c).1.trans ?_, (h c).2⟩
        rw [Cert.SmallRefIdeal.Read.val_main_v50_eq, (hag c).1, (hag c).2.1, (hag c).2.2.1, (hag c).2.2.2.1, (hag c).2.2.2.2]
        rfl)
      (Cert.SmallRefIdeal.Value.run (F := Ideal) m' ρ')⟩

/-- The merge without the last norm: the kernel's result array is the reference's, for all arguments. -/
theorem algebraic_inner : Cert.algebraic_InnerIdeal_InnerRefIdeal := fun m ρ m' ρ' _ hag =>
  ⟨fun c => Cert.InnerIdeal.Merge.G m c,
    (θ_run Cert.InnerIdeal.defs _ _).mono (fun r h c => ⟨(h c).1.trans (Cert.InnerIdeal.Merge.final m c), (h c).2⟩)
      (Cert.InnerIdeal.Value.run_blocks m ρ),
    (θ_run Cert.InnerRefIdeal.defs _ _).mono (fun r h c => by
        refine ⟨(h c).1.trans ?_, (h c).2⟩
        rw [Cert.InnerRefIdeal.Read.val_main_v22_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1]
        rfl)
      (Cert.InnerRefIdeal.Value.run (F := Ideal) m' ρ')⟩

theorem claim : Cert.Claim :=
  ⟨Cert.Kernel.Gen.facts, Cert.KernelIdeal.Gen.facts, Cert.ReferenceIdeal.Gen.facts, Cert.Projection.Gen.facts, Cert.ProjectionIdeal.Gen.facts,
    Cert.ProjectionRefIdeal.Gen.facts, Cert.Merge.Gen.facts, Cert.MergeIdeal.Gen.facts, Cert.MergeRefIdeal.Gen.facts, Cert.Small.Gen.facts, Cert.SmallIdeal.Gen.facts,
    Cert.SmallRefIdeal.Gen.facts, Cert.Inner.Gen.facts, Cert.InnerIdeal.Gen.facts, Cert.InnerRefIdeal.Gen.facts, Cert.Pre_finite_qk.Gen.facts,
    Cert.Pre_finite_proj.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    Cert.Texts.frame_proj, fun m ρ _ => Cert.ProjectionIdeal.Gen.frame m ρ, fun m ρ _ => Cert.ProjectionIdeal.Gen.frame m ρ,
    frame_proj_ri, fun m ρ _ => frame_proj_ri m ρ trivial,
    Cert.Texts.frame_merge, fun m ρ _ => Cert.MergeIdeal.Gen.frame m ρ, frame_merge_ri,
    Cert.Texts.frame_small, fun m ρ _ => Cert.SmallIdeal.Gen.frame m ρ, fun m ρ _ => Cert.SmallIdeal.Gen.frame m ρ,
    frame_small_ri, fun m ρ _ => frame_small_ri m ρ trivial,
    Cert.Texts.frame_inner, fun m ρ _ => Cert.InnerIdeal.Gen.frame m ρ, frame_inner_ri,
    preserves, algebraic, trivial, algebraic_proj, trivial, algebraic_merge,
    trivial, algebraic_small, trivial, algebraic_inner⟩

end Cert.Proof

end
